-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "pi_fifth" .f32 0x3F20D97C#32 ((Real.pi * (1 / 5) : ℝ) : EReal)
  ∧ IdealRules.named_const.Statement Cert.KernelIdeal.κ "pi" .f32 0x40490FDB#32 ((Real.pi : ℝ) : EReal)
  ∧ IdealRules.named_const.Statement Cert.KernelIdeal.κ "pi_half" .f32 0x3FC90FDB#32 ((Real.pi * (1 / 2) : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x3 : Shape := ⟨2, ![4096, 3]⟩
abbrev S4096x16 : Shape := ⟨2, ![4096, 16]⟩
abbrev S16x32 : Shape := ⟨2, ![16, 32]⟩
abbrev S8x32 : Shape := ⟨2, ![8, 32]⟩
abbrev S32 : Shape := ⟨1, ![32]⟩
abbrev S_ : Shape := ⟨0, ![]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S4096x33 : Shape := ⟨2, ![4096, 33]⟩
abbrev S4096x1 : Shape := ⟨2, ![4096, 1]⟩
abbrev S4096 : Shape := ⟨1, ![4096]⟩

class Facts : Prop where
  bcast_S_S4096x3 : S_.BroadcastsInDim S4096x3 (![] : Fin 0 → Fin S4096x3.rank)
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  sliceFits_S4096x4096_S4096x33 : S4096x4096.Slices (fun _ => 0) S4096x33
  slices_S4096x33_S4096x1_0_31 : S4096x33.Slices ![0, 31] S4096x1
  shapeCasts_S4096x1_S4096 : S4096x1.ShapeCasts S4096
  slices_S4096x33_S4096x1_0_32 : S4096x33.Slices ![0, 32] S4096x1
  bcast_S_S4096 : S_.BroadcastsInDim S4096 (![] : Fin 0 → Fin S4096.rank)
  reducesTo_S4096_S_d0 : S4096.ReducesTo [0] S_
  reducesTo_S4096x3_S_d0_1 : S4096x3.ReducesTo [0, 1] S_
  bcast_S_S4096x16 : S_.BroadcastsInDim S4096x16 (![] : Fin 0 → Fin S4096x16.rank)
  reducesTo_S4096x16_S_d0_1 : S4096x16.ReducesTo [0, 1] S_
  bcast_S_S16x32 : S_.BroadcastsInDim S16x32 (![] : Fin 0 → Fin S16x32.rank)
  reducesTo_S16x32_S_d0_1 : S16x32.ReducesTo [0, 1] S_
  bcast_S_S8x32 : S_.BroadcastsInDim S8x32 (![] : Fin 0 → Fin S8x32.rank)
  reducesTo_S8x32_S_d0_1 : S8x32.ReducesTo [0, 1] S_

variable [Facts]

def fn_part3 {F : FTy → Type} [FloatOps F] (main_v50 : IVec S_ 1) (main_v53 : IVec S8x32 1) : IVec S_ 1 :=
  let main_c_14 : IVec S_ 1 := constantI S_ 1 1#1
  let main_v54 : IVec S_ 1 := (fun x v => Host.reduce IntOp.andi x v reducesTo_S8x32_S_d0_1 h_S_) main_v53 main_c_14
  let main_v55 : IVec S_ 1 := andi main_v50 main_v54
  main_v55

def fn_part2 {F : FTy → Type} [FloatOps F] (main_arg1 : FVec F S4096x16 .f32) (main_arg2 : FVec F S16x32 .f32) (main_arg3 : FVec F S8x32 .f32) (main_v35 : IVec S_ 1) (main_v36 : FVec F S4096x3 .f32) : IVec S_ 1 :=
  let main_cst_7 : FVec F S_ .f32 := constant S_ .f32 0x447A0000#32
  let main_v37 : FVec F S4096x3 .f32 := broadcastInDim S4096x3 ![] bcast_S_S4096x3 main_cst_7
  let main_v38 : IVec S4096x3 1 := cmpf .ole main_v36 main_v37
  let main_c_8 : IVec S_ 1 := constantI S_ 1 1#1
  let main_v39 : IVec S_ 1 := (fun x v => Host.reduce IntOp.andi x v reducesTo_S4096x3_S_d0_1 h_S_) main_v38 main_c_8
  let main_v40 : IVec S_ 1 := andi main_v35 main_v39
  let main_v41 : FVec F S4096x16 .f32 := Host.absf main_arg1
  let main_cst_9 : FVec F S_ .f32 := constant S_ .f32 0x7F800000#32
  let main_v42 : FVec F S4096x16 .f32 := broadcastInDim S4096x16 ![] bcast_S_S4096x16 main_cst_9
  let main_v43 : IVec S4096x16 1 := cmpf .olt main_v41 main_v42
  let main_c_10 : IVec S_ 1 := constantI S_ 1 1#1
  let main_v44 : IVec S_ 1 := (fun x v => Host.reduce IntOp.andi x v reducesTo_S4096x16_S_d0_1 h_S_) main_v43 main_c_10
  let main_v45 : IVec S_ 1 := andi main_v40 main_v44
  let main_v46 : FVec F S16x32 .f32 := Host.absf main_arg2
  let main_cst_11 : FVec F S_ .f32 := constant S_ .f32 0x7F800000#32
  let main_v47 : FVec F S16x32 .f32 := broadcastInDim S16x32 ![] bcast_S_S16x32 main_cst_11
  let main_v48 : IVec S16x32 1 := cmpf .olt main_v46 main_v47
  let main_c_12 : IVec S_ 1 := constantI S_ 1 1#1
  let main_v49 : IVec S_ 1 := (fun x v => Host.reduce IntOp.andi x v reducesTo_S16x32_S_d0_1 h_S_) main_v48 main_c_12
  let main_v50 : IVec S_ 1 := andi main_v45 main_v49
  let main_v51 : FVec F S8x32 .f32 := Host.absf main_arg3
  let main_cst_13 : FVec F S_ .f32 := constant S_ .f32 0x7F800000#32
  let main_v52 : FVec F S8x32 .f32 := broadcastInDim S8x32 ![] bcast_S_S8x32 main_cst_13
  let main_v53 : IVec S8x32 1 := cmpf .olt main_v51 main_v52
  fn_part3 (F := F) main_v50 main_v53

def fn_part1 {F : FTy → Type} [FloatOps F] (main_arg0 : FVec F S4096x3 .f32) (main_arg1 : FVec F S4096x16 .f32) (main_arg2 : FVec F S16x32 .f32) (main_arg3 : FVec F S8x32 .f32) (main_v18 : FVec F S4096x4096 .f32) (main_values : FVec F S4096x33 .f32) : IVec S_ 1 :=
  let main_indices : IVec S4096x33 32 := (fun x => (Host.topK S4096x33 1 (FloatOps.cmpfTotal .gt) x sliceFits_S4096x4096_S4096x33).2) main_v18
  let main_v19 : FVec F S4096x33 .f32 := Host.negf main_values
  let main_v20 : FVec F S4096x1 .f32 := (extractStridedSlice S4096x1 ![0, 31] · slices_S4096x33_S4096x1_0_31) main_v19
  let main_v21 : FVec F S4096 .f32 := shapeCast S4096 main_v20 shapeCasts_S4096x1_S4096
  let main_v22 : FVec F S4096x1 .f32 := (extractStridedSlice S4096x1 ![0, 32] · slices_S4096x33_S4096x1_0_32) main_v19
  let main_v23 : FVec F S4096 .f32 := shapeCast S4096 main_v22 shapeCasts_S4096x1_S4096
  let main_cst_2 : FVec F S_ .f32 := constant S_ .f32 0x38C80000#32
  let main_v24 : FVec F S4096 .f32 := broadcastInDim S4096 ![] bcast_S_S4096 main_cst_2
  let main_v25 : FVec F S4096 .f32 := Host.divf main_v21 main_v24
  let main_v26 : FVec F S4096 .f32 := Host.ceil main_v25
  let main_cst_3 : FVec F S_ .f32 := constant S_ .f32 0x3F800000#32
  let main_v27 : FVec F S4096 .f32 := broadcastInDim S4096 ![] bcast_S_S4096 main_cst_3
  let main_v28 : FVec F S4096 .f32 := maximumf main_v26 main_v27
  let main_cst_4 : FVec F S_ .f32 := constant S_ .f32 0x38C80000#32
  let main_v29 : FVec F S4096 .f32 := broadcastInDim S4096 ![] bcast_S_S4096 main_cst_4
  let main_v30 : FVec F S4096 .f32 := mulf main_v28 main_v29
  let main_v31 : IVec S4096 1 := cmpf .olt main_v30 main_v23
  let main_cst_5 : FVec F S_ .f32 := constant S_ .f32 0x41C80000#32
  let main_v32 : FVec F S4096 .f32 := broadcastInDim S4096 ![] bcast_S_S4096 main_cst_5
  let main_v33 : IVec S4096 1 := cmpf .ogt main_v21 main_v32
  let main_v34 : IVec S4096 1 := ori main_v31 main_v33
  let main_c_6 : IVec S_ 1 := constantI S_ 1 1#1
  let main_v35 : IVec S_ 1 := (fun x v => Host.reduce IntOp.andi x v reducesTo_S4096_S_d0 h_S_) main_v34 main_c_6
  let main_v36 : FVec F S4096x3 .f32 := Host.absf main_arg0
  fn_part2 (F := F) main_arg1 main_arg2 main_arg3 main_v35 main_v36

def fn {F : FTy → Type} [FloatOps F] (main_arg0 : FVec F S4096x3 .f32) (main_arg1 : FVec F S4096x16 .f32) (main_arg2 : FVec F S16x32 .f32) (main_arg3 : FVec F S8x32 .f32) (main_arg4 : FVec F S32 .f32) : IVec S_ 1 :=
  let main_cst : FVec F S_ .f32 := constant S_ .f32 0x41200000#32
  let main_v0 : FVec F S4096x3 .f32 := broadcastInDim S4096x3 ![] bcast_S_S4096x3 main_cst
  let main_v1 : FVec F S4096x3 .f32 := mulf main_arg0 main_v0
  let main_v2 : FVec F S4096x1x3 .f32 := broadcastInDim S4096x1x3 ![0, 2] bcast_S4096x3_S4096x1x3_0_2 main_v1
  let main_v3 : FVec F S1x4096x3 .f32 := broadcastInDim S1x4096x3 ![1, 2] bcast_S4096x3_S1x4096x3_1_2 main_v1
  let main_v4 : FVec F S4096x4096x3 .f32 := broadcastInDim S4096x4096x3 ![0, 1, 2] bcast_S4096x1x3_S4096x4096x3_0_1_2 main_v2
  let main_v5 : FVec F S4096x4096x3 .f32 := broadcastInDim S4096x4096x3 ![0, 1, 2] bcast_S1x4096x3_S4096x4096x3_0_1_2 main_v3
  let main_v6 : FVec F S4096x4096x3 .f32 := subf main_v4 main_v5
  let main_v7 : FVec F S4096x4096x3 .f32 := mulf main_v6 main_v6
  let main_cst_0 : FVec F S_ .f32 := constant S_ .f32 0x00000000#32
  let main_v8 : FVec F S4096x4096 .f32 := (fun x v => Host.reduceAdd x v reducesTo_S4096x4096x3_S4096x4096_d2 h_S_) main_v7 main_cst_0
  let main_v9 : IVec S4096x4096 32 := iotaInDim S4096x4096 32 0
  let main_v10 : IVec S4096x4096 32 := iotaInDim S4096x4096 32 1
  let main_c : IVec S_ 32 := constantI S_ 32 0#32
  let main_v11 : IVec S4096x4096 32 := broadcastInDim S4096x4096 ![] bcast_S_S4096x4096 main_c
  let main_v12 : IVec S4096x4096 32 := addi main_v9 main_v11
  let main_v13 : IVec S4096x4096 1 := cmpi .eq main_v12 main_v10
  let main_v14 : FVec F S4096x4096 .f32 := uitofp .f32 main_v13
  let main_cst_1 : FVec F S_ .f32 := constant S_ .f32 0x501502F9#32
  let main_v15 : FVec F S4096x4096 .f32 := broadcastInDim S4096x4096 ![] bcast_S_S4096x4096 main_cst_1
  let main_v16 : FVec F S4096x4096 .f32 := mulf main_v14 main_v15
  let main_v17 : FVec F S4096x4096 .f32 := addf main_v8 main_v16
  let main_v18 : FVec F S4096x4096 .f32 := Host.negf main_v17
  let main_values : FVec F S4096x33 .f32 := (fun x => (Host.topK S4096x33 1 (FloatOps.cmpfTotal .gt) x sliceFits_S4096x4096_S4096x33).1) main_v18
  fn_part1 (F := F) main_arg0 main_arg1 main_arg2 main_arg3 main_v18 main_values
-- ==== Kernel.lean ====
abbrev S4096x3 : Shape := ⟨2, ![4096, 3]⟩
abbrev S4096x16 : Shape := ⟨2, ![4096, 16]⟩
abbrev S16x32 : Shape := ⟨2, ![16, 32]⟩
abbrev S8x32 : Shape := ⟨2, ![8, 32]⟩
abbrev S32 : Shape := ⟨1, ![32]⟩
abbrev S_ : Shape := ⟨0, ![]⟩
abbrev S4096x8 : Shape := ⟨2, ![4096, 8]⟩
abbrev S1 : Shape := ⟨1, ![1]⟩
abbrev S8x4096 : Shape := ⟨2, ![8, 4096]⟩
abbrev S3x4096 : Shape := ⟨2, ![3, 4096]⟩
abbrev S1x32 : Shape := ⟨2, ![1, 32]⟩
abbrev S1x1 : Shape := ⟨2, ![1, 1]⟩
abbrev S256x8 : Shape := ⟨2, ![256, 8]⟩
abbrev S4096x32 : Shape := ⟨2, ![4096, 32]⟩
abbrev S256x1 : Shape := ⟨2, ![256, 1]⟩
abbrev S1x4096 : Shape := ⟨2, ![1, 4096]⟩
abbrev S256x4096 : Shape := ⟨2, ![256, 4096]⟩
abbrev S256 : Shape := ⟨1, ![256]⟩
abbrev S256x32 : Shape := ⟨2, ![256, 32]⟩
abbrev S1x256x32 : Shape := ⟨3, ![1, 256, 32]⟩
abbrev S1x1x1 : Shape := ⟨3, ![1, 1, 1]⟩

abbrev nBuf : Space → Nat
  | .hbm => 18
  | .vmem => 9
  | .smem => 0
  | _ => 0

abbrev bufTy : (tb : Table) → Fin (tcTables nBuf tb) → BufTy
  | .hbm, ⟨0, _⟩ => ⟨S4096x3, .f32⟩
  | .hbm, ⟨1, _⟩ => ⟨S4096x16, .f32⟩
  | .hbm, ⟨2, _⟩ => ⟨S16x32, .f32⟩
  | .hbm, ⟨3, _⟩ => ⟨S8x32, .f32⟩
  | .hbm, ⟨4, _⟩ => ⟨S32, .f32⟩
  | .hbm, ⟨5, _⟩ => ⟨S_, .f32⟩
  | .hbm, ⟨6, _⟩ => ⟨S4096x8, .f32⟩
  | .hbm, ⟨7, _⟩ => ⟨S_, .i32⟩
  | .hbm, ⟨8, _⟩ => ⟨S1, .i32⟩
  | .hbm, ⟨9, _⟩ => ⟨S4096x8, .f32⟩
  | .hbm, ⟨10, _⟩ => ⟨S_, .f32⟩
  | .hbm, ⟨11, _⟩ => ⟨S8x4096, .f32⟩
  | .hbm, ⟨12, _⟩ => ⟨S3x4096, .f32⟩
  | .hbm, ⟨13, _⟩ => ⟨S_, .i32⟩
  | .hbm, ⟨14, _⟩ => ⟨S1, .i32⟩
  | .hbm, ⟨15, _⟩ => ⟨S8x4096, .f32⟩
  | .hbm, ⟨16, _⟩ => ⟨S1x32, .f32⟩
  | .hbm, ⟨17, _⟩ => ⟨S1x1, .f32⟩
  | .local _ .vmem, ⟨0, _⟩ => ⟨S256x8, .f32⟩
  | .local _ .vmem, ⟨1, _⟩ => ⟨S256x8, .f32⟩
  | .local _ .vmem, ⟨2, _⟩ => ⟨S8x4096, .f32⟩
  | .local _ .vmem, ⟨3, _⟩ => ⟨S4096x16, .f32⟩
  | .local _ .vmem, ⟨4, _⟩ => ⟨S16x32, .f32⟩
  | .local _ .vmem, ⟨5, _⟩ => ⟨S8x32, .f32⟩
  | .local _ .vmem, ⟨6, _⟩ => ⟨S1x32, .f32⟩
  | .local _ .vmem, ⟨7, _⟩ => ⟨S1x1, .f32⟩
  | .local _ .vmem, ⟨8, _⟩ => ⟨S4096x32, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32_134 : BitVec 32 := 256#32
  let v432 : BitVec 32 := Scalar.muli arg0 c256_i32_134
  let v433 : Index := Scalar.indexCast v432
  let c0_135 : Index := 0#32
  ![v433.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "pi" => some ((Real.pi : ℝ) : EReal)
  | "pi_fifth" => some ((Real.pi * (1 / 5) : ℝ) : EReal)
  | "pi_half" => some ((Real.pi * (1 / 2) : ℝ) : EReal)
  | _ => none
-- ==== ReferenceIdeal.lean ====
abbrev S4096x3 : Shape := ⟨2, ![4096, 3]⟩
abbrev S4096x16 : Shape := ⟨2, ![4096, 16]⟩
abbrev S16x32 : Shape := ⟨2, ![16, 32]⟩
abbrev S8x32 : Shape := ⟨2, ![8, 32]⟩
abbrev S32 : Shape := ⟨1, ![32]⟩
abbrev S_ : Shape := ⟨0, ![]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S4096x32 : Shape := ⟨2, ![4096, 32]⟩
abbrev S4096x32x1 : Shape := ⟨3, ![4096, 32, 1]⟩
abbrev S4096x32x3 : Shape := ⟨3, ![4096, 32, 3]⟩
abbrev S8 : Shape := ⟨1, ![8]⟩
abbrev S1x1x8 : Shape := ⟨3, ![1, 1, 8]⟩
abbrev S4096x32x8 : Shape := ⟨3, ![4096, 32, 8]⟩
abbrev S4096x32x32 : Shape := ⟨3, ![4096, 32, 32]⟩
abbrev S4096 : Shape := ⟨1, ![4096]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x16, .f32⟩
  | .hbm, ⟨2, _⟩ => ⟨S16x32, .f32⟩
  | .hbm, ⟨3, _⟩ => ⟨S8x32, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x3, .f32⟩
  | .hbm, ⟨9, _⟩ => ⟨S4096x3, .f32⟩
  | .hbm, ⟨10, _⟩ => ⟨S4096x1x3, .f32⟩
  | .hbm, ⟨11, _⟩ => ⟨S1x4096x3, .f32⟩
  | .hbm, ⟨12, _⟩ => ⟨S4096x4096x3, .f32⟩
  | .hbm, ⟨13, _⟩ => ⟨S4096x4096x3, .f32⟩
  | .hbm, ⟨14, _⟩ => ⟨S4096x4096x3, .f32⟩
  | .hbm, ⟨15, _⟩ => ⟨S4096x4096x3, .f32⟩
  | .hbm, ⟨16, _⟩ => ⟨S_, .f32⟩
  | .hbm, ⟨17, _⟩ => ⟨S4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x32, .f32⟩
  | .hbm, ⟨31, _⟩ => ⟨S4096x32, .i32⟩
  | .hbm, ⟨32, _⟩ => ⟨S_, .i32⟩
  | .hbm, ⟨33, _⟩ => ⟨S4096x32, .i32⟩
  | .hbm, ⟨34, _⟩ => ⟨S4096x32, .i1⟩
  | .hbm, ⟨35, _⟩ => ⟨S_, .i32⟩
  | .hbm, ⟨36, _⟩ => ⟨S4096x32, .i32⟩
  | .hbm, ⟨37, _⟩ => ⟨S4096x32, .i32⟩
  | .hbm, ⟨38, _⟩ => ⟨S4096x32, .i32⟩
  | .hbm, ⟨39, _⟩ => ⟨S4096x32x1, .i32⟩
  | .hbm, ⟨40, _⟩ => ⟨S4096x32x3, .f32⟩
  | .hbm, ⟨41, _⟩ => ⟨S4096x1x3, .f32⟩
  | .hbm, ⟨42, _⟩ => ⟨S4096x32x3, .f32⟩
  | .hbm, ⟨43, _⟩ => ⟨S4096x32x3, .f32⟩
  | .hbm, ⟨44, _⟩ => ⟨S4096x32x3, .f32⟩
  | .hbm, ⟨45, _⟩ => ⟨S_, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x32, .i1⟩
  | .hbm, ⟨54, _⟩ => ⟨S4096x32, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S1x1x8, .f32⟩
  | .hbm, ⟨60, _⟩ => ⟨S1x1x8, .f32⟩
  | .hbm, ⟨61, _⟩ => ⟨S1x1x8, .f32⟩
  | .hbm, ⟨62, _⟩ => ⟨S4096x32x1, .f32⟩
  | .hbm, ⟨63, _⟩ => ⟨S4096x32x8, .f32⟩
  | .hbm, ⟨64, _⟩ => ⟨S4096x32x8, .f32⟩
  | .hbm, ⟨65, _⟩ => ⟨S4096x32x8, .f32⟩
  | .hbm, ⟨66, _⟩ => ⟨S_, .f32⟩
  | .hbm, ⟨67, _⟩ => ⟨S4096x32x8, .f32⟩
  | .hbm, ⟨68, _⟩ => ⟨S4096x32x8, .f32⟩
  | .hbm, ⟨69, _⟩ => ⟨S4096x32x8, .f32⟩
  | .hbm, ⟨70, _⟩ => ⟨S4096x32x1, .f32⟩
  | .hbm, ⟨71, _⟩ => ⟨S4096x32x8, .f32⟩
  | .hbm, ⟨72, _⟩ => ⟨S4096x32x8, .f32⟩
  | .hbm, ⟨73, _⟩ => ⟨S_, .f32⟩
  | .hbm, ⟨74, _⟩ => ⟨S4096x32, .f32⟩
  | .hbm, ⟨75, _⟩ => ⟨S4096x32, .f32⟩
  | .hbm, ⟨76, _⟩ => ⟨S4096x32, .f32⟩
  | .hbm, ⟨77, _⟩ => ⟨S4096x32, .f32⟩
  | .hbm, ⟨78, _⟩ => ⟨S_, .f32⟩
  | .hbm, ⟨79, _⟩ => ⟨S4096x32, .f32⟩
  | .hbm, ⟨80, _⟩ => ⟨S4096x32, .f32⟩
  | .hbm, ⟨81, _⟩ => ⟨S4096x32, .f32⟩
  | .hbm, ⟨82, _⟩ => ⟨S_, .f32⟩
  | .hbm, ⟨83, _⟩ => ⟨S4096x32, .f32⟩
  | .hbm, ⟨84, _⟩ => ⟨S4096x32, .f32⟩
  | .hbm, ⟨85, _⟩ => ⟨S_, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x32x1, .f32⟩
  | .hbm, ⟨90, _⟩ => ⟨S4096x32x8, .f32⟩
  | .hbm, ⟨91, _⟩ => ⟨S4096x32x8, .f32⟩
  | .hbm, ⟨92, _⟩ => ⟨S4096x32, .f32⟩
  | .hbm, ⟨93, _⟩ => ⟨S_, .i32⟩
  | .hbm, ⟨94, _⟩ => ⟨S4096x32, .i32⟩
  | .hbm, ⟨95, _⟩ => ⟨S4096x32, .i1⟩
  | .hbm, ⟨96, _⟩ => ⟨S_, .i32⟩
  | .hbm, ⟨97, _⟩ => ⟨S4096x32, .i32⟩
  | .hbm, ⟨98, _⟩ => ⟨S4096x32, .i32⟩
  | .hbm, ⟨99, _⟩ => ⟨S4096x32, .i32⟩
  | .hbm, ⟨100, _⟩ => ⟨S4096x32x1, .i32⟩
  | .hbm, ⟨101, _⟩ => ⟨S4096x32x32, .f32⟩
  | .hbm, ⟨102, _⟩ => ⟨S4096x32x32, .f32⟩
  | .hbm, ⟨103, _⟩ => ⟨S4096x32x32, .f32⟩
  | .hbm, ⟨104, _⟩ => ⟨S_, .f32⟩
  | .hbm, ⟨105, _⟩ => ⟨S4096x32, .f32⟩
  | .hbm, ⟨106, _⟩ => ⟨S4096x32, .f32⟩
  | .hbm, ⟨107, _⟩ => ⟨S4096, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1x1, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_values : Ref sig .tc := ⟨.hbm, 30, rfl⟩
abbrev main_indices : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_14 : Ref sig .tc := ⟨.hbm, 93, rfl⟩
abbrev main_v70 : Ref sig .tc := ⟨.hbm, 94, rfl⟩
abbrev main_v71 : Ref sig .tc := ⟨.hbm, 95, rfl⟩
abbrev main_c_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Proof.Frames.lean ====
/-
  The claims that need no arithmetic: the three programs run, end with their arguments unchanged and every semaphore
  counter at zero, and the named constants of the kernel are the reals the certificate's table gives them.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel as written runs, leaves its arguments as they were, and every counter reads zero at the end. -/
theorem frame_kernel : Cert.quiescent_Kernel := fun m ρ _ => Cert.Kernel.Gen.frame m ρ

/-- The idealized kernel runs, leaves its arguments as they were, and every counter reads zero at the end. -/
theorem frame_kernelIdeal : Cert.quiescent_KernelIdeal := fun m ρ _ => Cert.KernelIdeal.Gen.frame m ρ

/-- The reference runs, leaves its arguments as they were, and every counter reads zero at the end: it has no counters. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's three named constants, a fifth of π, π and half of π, are the reals the table lists. -/
theorem preserves_consts : Cert.preserves_Kernel_KernelIdeal :=
  ⟨IdealRules.named_const.statement Cert.KernelIdeal.κ "pi_fifth" .f32 0x3F20D97C#32
      ((Real.pi * (1 / 5) : ℝ) : EReal) rfl,
   IdealRules.named_const.statement Cert.KernelIdeal.κ "pi" .f32 0x40490FDB#32 ((Real.pi : ℝ) : EReal) rfl,
   IdealRules.named_const.statement Cert.KernelIdeal.κ "pi_half" .f32 0x3FC90FDB#32 ((Real.pi * (1 / 2) : ℝ) : EReal) rfl⟩

end Cert.Proof

end
-- ==== Proof.Bisection.lean ====
/-
  The selection of the nearest atoms, over the reals. The kernel halves the interval from 0 to 25 eighteen times,
  keeping the upper half exactly when fewer than 32 of the row's numbers lie at or below the midpoint; the reference
  sorts the row and keeps the first 32. `select_sum` says when both give one sum.
-/
module

public import Idealize.ShloMosaic.PureOps.Ideal
public import Mathlib.Tactic.Linarith
public import Mathlib.Tactic.FieldSimp
public import Mathlib.Tactic.Positivity
public import Mathlib.Tactic.Ring

@[expose] public section

noncomputable section

namespace Cert.Proof

variable {n : ℕ}

/-- How many entries of the row `D` lie at or below `x`. -/
def countLe (D : Fin n → ℝ) (x : ℝ) : ℕ := (Finset.univ.filter fun j => D j ≤ x).card

/-- One halving of the interval `s`: the lower half when at least 32 entries lie at or below its midpoint, the
    upper half otherwise. -/
def halve (D : Fin n → ℝ) (s : ℝ × ℝ) : ℝ × ℝ :=
  if 32 ≤ countLe D (1 / 2 * (s.1 + s.2)) then (s.1, 1 / 2 * (s.1 + s.2)) else (1 / 2 * (s.1 + s.2), s.2)

/-- The interval after `k` halvings of the one from 0 to 25. -/
def interval (D : Fin n → ℝ) : ℕ → ℝ × ℝ
  | 0 => (0, 25)
  | k + 1 => halve D (interval D k)

/-- The upper end after all eighteen halvings. -/
def threshold (D : Fin n → ℝ) : ℝ := (interval D 18).2

/-- When `σ` lists the row in ascending order, at least 32 entries lie at or below `x` exactly when the 32nd in
    that order does. -/
theorem countLe_ge_iff (D : Fin n → ℝ) (σ : Fin n → Fin n) (hσ : Function.Bijective σ) (hm : Monotone (D ∘ σ))
    (h31 : 31 < n) (x : ℝ) : 32 ≤ countLe D x ↔ D (σ ⟨31, h31⟩) ≤ x := by
  constructor
  · intro h
    by_contra hx
    push Not at hx
    have hsub : (Finset.univ.filter fun j => D j ≤ x) ⊆ (Finset.univ.filter fun k : Fin n => k.val < 31).image σ := by
      intro j hj
      obtain ⟨k, rfl⟩ := hσ.2 j
      refine Finset.mem_image.2 ⟨k, ?_, rfl⟩
      simp only [Finset.mem_filter, Finset.mem_univ, true_and] at hj ⊢
      by_contra hk
      have : D (σ ⟨31, h31⟩) ≤ D (σ k) := hm (by rw [Fin.le_def]; simpa using hk)
      linarith
    have h1 := Finset.card_le_card hsub
    rw [Finset.card_image_of_injective _ hσ.1] at h1
    have h2 : (Finset.univ.filter fun k : Fin n => k.val < 31).card ≤ 31 := by
      have : ((Finset.univ.filter fun k : Fin n => k.val < 31).image Fin.val) ⊆ Finset.range 31 := by
        intro a ha
        obtain ⟨k, hk, rfl⟩ := Finset.mem_image.1 ha
        simpa using hk
      have h3 := Finset.card_le_card this
      rw [Finset.card_image_of_injective _ Fin.val_injective] at h3
      simpa using h3
    unfold countLe at h
    omega
  · intro hx
    have hsub : (Finset.univ.image fun k : Fin 32 => σ ⟨k.val, by omega⟩) ⊆ Finset.univ.filter fun j => D j ≤ x := by
      intro j hj
      obtain ⟨k, -, rfl⟩ := Finset.mem_image.1 hj
      simp only [Finset.mem_filter, Finset.mem_univ, true_and]
      have : D (σ ⟨k.val, by omega⟩) ≤ D (σ ⟨31, h31⟩) := hm (by rw [Fin.le_def]; simp; omega)
      linarith
    have h1 := Finset.card_le_card hsub
    rw [Finset.card_image_of_injective] at h1
    · simpa [countLe] using h1
    · intro a b hab
      have := hσ.1 hab
      simpa [Fin.ext_iff] using this

/-- The upper end never exceeds 25. -/
theorem interval_le (D : Fin n → ℝ) (k : ℕ) : (interval D k).1 ≤ (interval D k).2 ∧ (interval D k).2 ≤ 25 := by
  induction k with
  | zero => simp [interval]
  | succ k ih =>
    simp only [interval, halve]
    split
    · dsimp only; constructor <;> linarith [ih.1, ih.2]
    · dsimp only; constructor <;> linarith [ih.1, ih.2]

/-- When the 32nd entry exceeds 25, the upper end stays at 25. -/
theorem interval_of_far (D : Fin n → ℝ) (σ : Fin n → Fin n) (hσ : Function.Bijective σ) (hm : Monotone (D ∘ σ))
    (h31 : 31 < n) (hfar : 25 < D (σ ⟨31, h31⟩)) (k : ℕ) : (interval D k).2 = 25 := by
  induction k with
  | zero => rfl
  | succ k ih =>
    have hle := interval_le D k
    simp only [interval, halve]
    rw [if_neg]
    · exact ih
    · rw [countLe_ge_iff D σ hσ hm h31]
      intro h
      linarith [hle.1]

/-- When the 32nd entry is at most 25, the upper end after `k` halvings is a positive multiple of `25 / 2 ^ k`
    no smaller than that entry, and the next smaller multiple is below the entry unless it is zero. -/
theorem interval_of_near (D : Fin n → ℝ) (σ : Fin n → Fin n) (hσ : Function.Bijective σ) (hm : Monotone (D ∘ σ))
    (h31 : 31 < n) (hnear : D (σ ⟨31, h31⟩) ≤ 25) (k : ℕ) :
    ∃ a : ℕ, 1 ≤ a ∧ (interval D k).2 = a * (25 / 2 ^ k) ∧ (interval D k).1 = (a - 1) * (25 / 2 ^ k)
      ∧ D (σ ⟨31, h31⟩) ≤ (interval D k).2 ∧ (a = 1 ∨ (interval D k).1 < D (σ ⟨31, h31⟩)) := by
  induction k with
  | zero => exact ⟨1, le_refl _, by simp [interval], by simp [interval], by simpa [interval] using hnear, Or.inl rfl⟩
  | succ k ih =>
    obtain ⟨a, ha, h2, h1, hle, hlt⟩ := ih
    simp only [interval, halve]
    have hmid : 1 / 2 * ((interval D k).1 + (interval D k).2) = (2 * a - 1) * (25 / 2 ^ (k + 1)) := by
      rw [h1, h2, pow_succ]; field_simp; ring
    have hk : (25 : ℝ) / 2 ^ k = 2 * (25 / 2 ^ (k + 1)) := by rw [pow_succ]; field_simp
    split
    · rename_i hc
      rw [countLe_ge_iff D σ hσ hm h31] at hc
      refine ⟨2 * a - 1, by omega, ?_, ?_, hc, ?_⟩
      · rw [hmid]; push_cast [Nat.cast_sub (show 1 ≤ 2 * a by omega)]; ring
      · rw [h1, hk]; push_cast [Nat.cast_sub (show 1 ≤ 2 * a by omega)]; ring
      · rcases hlt with h | h
        · left; omega
        · right; exact h
    · rename_i hc
      rw [countLe_ge_iff D σ hσ hm h31] at hc
      push Not at hc
      refine ⟨2 * a, by omega, ?_, ?_, hle, Or.inr hc⟩
      · rw [h2, hk]; push_cast; ring
      · rw [hmid]; push_cast; ring

/-- The kernel's sum over the entries at or below the threshold is the sum over the first 32 in ascending order,
    for weights that vanish where the entry is at least 25, when the 32nd entry exceeds 25 or the multiple of
    `25 / 2 ^ 18` next at or above it is still below the 33rd. -/
theorem select_sum (D : Fin n → ℝ) (σ : Fin n → Fin n) (hσ : Function.Bijective σ) (hm : Monotone (D ∘ σ))
    (h32 : 32 < n)
    (hsep : 25 < D (σ ⟨31, by omega⟩)
      ∨ max (⌈D (σ ⟨31, by omega⟩) / (25 / 2 ^ 18)⌉ : ℝ) 1 * (25 / 2 ^ 18) < D (σ ⟨32, h32⟩))
    (w : Fin n → ℝ) (hw : ∀ j, 25 ≤ D j → w j = 0) :
    (∑ j, if D j ≤ threshold D then w j else 0) = ∑ k : Fin 32, w (σ ⟨k.val, by omega⟩) := by
  have h31 : 31 < n := by omega
  rw [← Equiv.sum_comp (Equiv.ofBijective σ hσ)]
  simp only [Equiv.ofBijective_apply]
  have hinj : Function.Injective (fun k : Fin 32 => (⟨k.val, by omega⟩ : Fin n)) := by
    intro a b h; simpa [Fin.ext_iff] using h
  rw [show (∑ k : Fin 32, w (σ ⟨k.val, by omega⟩))
      = ∑ k ∈ Finset.univ.map ⟨fun k : Fin 32 => (⟨k.val, by omega⟩ : Fin n), hinj⟩, w (σ k) by
    rw [Finset.sum_map]; rfl]
  have hmem : ∀ k : Fin n, k ∈ Finset.univ.map ⟨fun k : Fin 32 => (⟨k.val, by omega⟩ : Fin n), hinj⟩ ↔ k.val < 32 := by
    intro k
    simp only [Finset.mem_map, Finset.mem_univ, true_and, Function.Embedding.coeFn_mk]
    constructor
    · rintro ⟨a, rfl⟩; exact a.2
    · intro h; exact ⟨⟨k.val, h⟩, rfl⟩
  rw [← Finset.sum_subset (Finset.subset_univ
    (Finset.univ.map ⟨fun k : Fin 32 => (⟨k.val, by omega⟩ : Fin n), hinj⟩))]
  · refine Finset.sum_congr rfl fun k hk => ?_
    have hk' := (hmem k).1 hk
    split
    · rfl
    · rename_i hgt
      push Not at hgt
      by_cases hnear : D (σ ⟨31, h31⟩) ≤ 25
      · obtain ⟨a, -, -, -, hle, -⟩ := interval_of_near D σ hσ hm h31 hnear 18
        have : D (σ k) ≤ D (σ ⟨31, h31⟩) := hm (by rw [Fin.le_def]; simp; omega)
        have h' : D (σ ⟨31, h31⟩) ≤ threshold D := hle
        linarith
      · push Not at hnear
        have h' : threshold D = 25 := interval_of_far D σ hσ hm h31 hnear 18
        exact (hw _ (by linarith)).symm
  · intro k _ hk
    rw [hmem] at hk
    push Not at hk
    rw [if_neg]
    push Not
    by_cases hnear : D (σ ⟨31, h31⟩) ≤ 25
    · obtain ⟨a, ha, h2, h1, hle, hlt⟩ := interval_of_near D σ hσ hm h31 hnear 18
      have hs := hsep.resolve_left (by linarith)
      have : D (σ ⟨32, h32⟩) ≤ D (σ k) := hm (by rw [Fin.le_def]; simpa using hk)
      have hb : (a : ℝ) ≤ max (⌈D (σ ⟨31, h31⟩) / (25 / 2 ^ 18)⌉ : ℝ) 1 := by
        rcases hlt with h | h
        · rw [h]; simp
        · refine le_max_of_le_left ?_
          rw [h1] at h
          have hd : ((a : ℝ) - 1) < D (σ ⟨31, h31⟩) / (25 / 2 ^ 18) := by
            rw [lt_div_iff₀ (by positivity)]; exact h
          have hc : ((a : ℤ) - 1) < ⌈D (σ ⟨31, h31⟩) / (25 / 2 ^ 18)⌉ := by
            rw [Int.lt_ceil]; push_cast; exact hd
          have : (a : ℤ) ≤ ⌈D (σ ⟨31, h31⟩) / (25 / 2 ^ 18)⌉ := by omega
          exact_mod_cast this
      have : threshold D = a * (25 / 2 ^ 18) := h2
      rw [this]
      have : (a : ℝ) * (25 / 2 ^ 18) ≤ max (⌈D (σ ⟨31, h31⟩) / (25 / 2 ^ 18)⌉ : ℝ) 1 * (25 / 2 ^ 18) :=
        mul_le_mul_of_nonneg_right hb (by positivity)
      linarith
    · push Not at hnear
      have h' : threshold D = 25 := interval_of_far D σ hσ hm h31 hnear 18
      have : D (σ ⟨31, h31⟩) ≤ D (σ k) := hm (by rw [Fin.le_def]; simp; omega)
      linarith

end Cert.Proof

end
-- ==== Proof.Consts.lean ====
/-
  The constants the programs spell as 32-bit patterns, as the real numbers they denote.
-/
module

public import Idealize.ShloMosaic.PureOps.Ideal

@[expose] public section

noncomputable section

namespace Cert.Proof

open Idealize.ShloMosaic

/-- The small number added to every squared distance, the 32-bit float nearest to `1e-12`. -/
def eps : ℝ := 9223372 / 2 ^ 63

/-- The unit conversion, the 32-bit float nearest to `96.48533212331`. -/
def unitE : ℝ := 12646525 / 2 ^ 17

/-- The small number is positive. -/
theorem eps_pos : 0 < eps := by unfold eps; norm_num

/-- The pattern of `10`. -/
theorem ofBits_ten : Ideal.ofBits .f32 0x41200000#32 = ((10 : ℝ) : EReal) := by
  simp [Ideal.ofBits, Ideal.ieee, -EReal.coe_mul]; norm_num

/-- The pattern of ten thousand million. -/
theorem ofBits_1e10 : Ideal.ofBits .f32 0x501502F9#32 = ((10000000000 : ℝ) : EReal) := by
  simp [Ideal.ofBits, Ideal.ieee, -EReal.coe_mul]; norm_num

/-- The pattern of `25`. -/
theorem ofBits_25 : Ideal.ofBits .f32 0x41C80000#32 = ((25 : ℝ) : EReal) := by
  simp [Ideal.ofBits, Ideal.ieee, -EReal.coe_mul]; norm_num

/-- The pattern of one half. -/
theorem ofBits_half : Ideal.ofBits .f32 0x3F000000#32 = ((1 / 2 : ℝ) : EReal) := by
  simp [Ideal.ofBits, Ideal.ieee, -EReal.coe_mul]; norm_num

/-- The pattern of `1`. -/
theorem ofBits_one : Ideal.ofBits .f32 0x3F800000#32 = ((1 : ℝ) : EReal) := by
  simp [Ideal.ofBits, Ideal.ieee, -EReal.coe_mul]; norm_num

/-- The pattern of `32`. -/
theorem ofBits_32 : Ideal.ofBits .f32 0x42000000#32 = ((32 : ℝ) : EReal) := by
  simp [Ideal.ofBits, Ideal.ieee, -EReal.coe_mul]; norm_num

/-- The pattern of `-1`. -/
theorem ofBits_neg_one : Ideal.ofBits .f32 0xBF800000#32 = ((-1 : ℝ) : EReal) := by
  simp [Ideal.ofBits, Ideal.ieee, -EReal.coe_mul]; norm_num

/-- The pattern of one and a half. -/
theorem ofBits_three_halves : Ideal.ofBits .f32 0x3FC00000#32 = ((3 / 2 : ℝ) : EReal) := by
  simp [Ideal.ofBits, Ideal.ieee, -EReal.coe_mul]; norm_num

/-- The pattern of `2`. -/
theorem ofBits_two : Ideal.ofBits .f32 0x40000000#32 = ((2 : ℝ) : EReal) := by
  simp [Ideal.ofBits, Ideal.ieee, -EReal.coe_mul]; norm_num

/-- The pattern of `5`. -/
theorem ofBits_five : Ideal.ofBits .f32 0x40A00000#32 = ((5 : ℝ) : EReal) := by
  simp [Ideal.ofBits, Ideal.ieee, -EReal.coe_mul]; norm_num

/-- The pattern of `1000`. -/
theorem ofBits_1000 : Ideal.ofBits .f32 0x447A0000#32 = ((1000 : ℝ) : EReal) := by
  simp [Ideal.ofBits, Ideal.ieee, -EReal.coe_mul]; norm_num

/-- The pattern of the search's final step. -/
theorem ofBits_step : Ideal.ofBits .f32 0x38C80000#32 = ((25 / 2 ^ 18 : ℝ) : EReal) := by
  simp [Ideal.ofBits, Ideal.ieee, -EReal.coe_mul]; norm_num

/-- The pattern of the small number added to squared distances. -/
theorem ofBits_eps : Ideal.ofBits .f32 0x2B8CBCCC#32 = ((eps : ℝ) : EReal) := by
  simp [Ideal.ofBits, Ideal.ieee, eps, -EReal.coe_mul]; norm_num

/-- The unit's factor is not negative. -/
theorem unitE_nonneg : 0 ≤ unitE := by unfold unitE; norm_num

/-- The pattern of the unit conversion. -/
theorem ofBits_unitE : Ideal.ofBits .f32 0x42C0F87D#32 = ((unitE : ℝ) : EReal) := by
  simp [Ideal.ofBits, Ideal.ieee, unitE, -EReal.coe_mul]; norm_num

/-- The pattern of infinity. -/
theorem ofBits_inf : Ideal.ofBits .f32 0x7F800000#32 = (⊤ : EReal) := by
  simp [Ideal.ofBits, Ideal.ieee]

/-- The pattern of minus infinity. -/
theorem ofBits_neg_inf : Ideal.ofBits .f32 0xFF800000#32 = (⊥ : EReal) := by
  simp [Ideal.ofBits, Ideal.ieee]

end Cert.Proof

end
-- ==== Proof.KernelSelect.lean ====
/-
  The kernel's choice of neighbours in one block of 256 rows: eighteen halvings of the interval from 0 to 25, then the
  entries at or below the largest entry not above the upper end.
-/
module

public import proofs.«01_k».proof.Proof.Gen.KernelIdeal.Skeleton
public import proofs.«01_k».proof.Proof.Bisection
public import proofs.«01_k».proof.Proof.Consts
public import Idealize.ShloMosaic.Lib.Pointwise

@[expose] public section

noncomputable section

namespace Cert.Proof

open Idealize.ShloMosaic Idealize.SL.Sem Cert.KernelIdeal Cert.KernelIdeal.Gen

/-- The midpoints of the intervals of the rows. -/
def midpoint (lo hi : FVec Ideal S256x1 .f32) : FVec Ideal S256x1 .f32 :=
  mulf (broadcast S256x1 (Scalar.ofBits .f32 0x3F000000#32)) (addf lo hi)

/-- Which rows have at least 32 entries at or below their midpoint. -/
def enough (v36 : FVec Ideal S256x4096 .f32) (mid : FVec Ideal S256x1 .f32) : IVec S256x1 1 :=
  cmpf .oge (shapeCast S256x1 (multiReduction (F := Ideal) (φ := .f32) .add [1] S256
    (select (cmpf .ole v36 (broadcastTo S256x4096 mid broadcasts_S256x1_S256x4096))
      (broadcast S256x4096 (Scalar.ofBits .f32 0x3F800000#32)) (broadcast S256x4096 (Scalar.ofBits .f32 0x00000000#32)))
    0x00000000#32 reduces_S256x4096_S256 (.inl rfl) rfl) shapeCasts_S256_S256x1)
    (broadcast S256x1 (Scalar.ofBits .f32 0x42000000#32))

/-- The rows' intervals hold what `k` halvings give. -/
def At (D : Fin 256 → Fin 4096 → ℝ) (k : ℕ) (lo hi : FVec Ideal S256x1 .f32) : Prop :=
  ∀ r : Fin 256, lo (ix2 r 0) = ((interval (D r) k).1 : EReal) ∧ hi (ix2 r 0) = ((interval (D r) k).2 : EReal)

variable {D : Fin 256 → Fin 4096 → ℝ} {v36 : FVec Ideal S256x4096 .f32}

/-- The midpoint of a row's interval. -/
theorem midpoint_apply {k : ℕ} {lo hi : FVec Ideal S256x1 .f32} (h : At D k lo hi) (r : Fin 256) :
    midpoint lo hi (ix2 r 0) = ((1 / 2 * ((interval (D r) k).1 + (interval (D r) k).2) : ℝ) : EReal) := by
  pointwise [midpoint]
  rw [(h r).1, (h r).2, ofBits_half, ← EReal.coe_add, ← EReal.coe_mul]

/-- The test of a row's midpoint counts the entries at or below it. -/
theorem enough_apply (hv : ∀ r j, v36 (ix2 r j) = (D r j : EReal)) (mid : FVec Ideal S256x1 .f32) (x : ℝ) (r : Fin 256)
    (hm : mid (ix2 r 0) = (x : EReal)) :
    enough v36 mid (ix2 r 0) = BitVec.ofBool (decide (32 ≤ countLe (D r) x)) := by
  pointwise [enough]
  rw [hm, ofBits_32]
  simp only [hv, EReal.coe_le_coe_iff]
  congr 2
  rw [show (∑ j, if D r j ≤ x then (1 : EReal) else 0) = ((countLe (D r) x : ℝ) : EReal) by
    rw [Finset.sum_boole]; rfl]
  rw [EReal.coe_le_coe_iff, eq_iff_iff]
  norm_cast

/-- One halving. -/
theorem At.step (hv : ∀ r j, v36 (ix2 r j) = (D r j : EReal)) {k : ℕ} {lo hi : FVec Ideal S256x1 .f32}
    (h : At D k lo hi) :
    At D (k + 1) (select (enough v36 (midpoint lo hi)) lo (midpoint lo hi))
      (select (enough v36 (midpoint lo hi)) (midpoint lo hi) hi) := by
  intro r
  have hm := midpoint_apply h r
  have he := enough_apply hv _ _ r hm
  constructor
  · show (if enough v36 (midpoint lo hi) (ix2 r 0) = 1#1 then lo (ix2 r 0) else midpoint lo hi (ix2 r 0)) = _
    rw [he, hm, (h r).1]
    simp only [interval, halve]
    by_cases hc : 32 ≤ countLe (D r) (1 / 2 * ((interval (D r) k).1 + (interval (D r) k).2))
    · rw [if_pos hc, decide_eq_true hc]; rfl
    · rw [if_neg hc, decide_eq_false hc]; rfl
  · show (if enough v36 (midpoint lo hi) (ix2 r 0) = 1#1 then midpoint lo hi (ix2 r 0) else hi (ix2 r 0)) = _
    rw [he, hm, (h r).2]
    simp only [interval, halve]
    by_cases hc : 32 ≤ countLe (D r) (1 / 2 * ((interval (D r) k).1 + (interval (D r) k).2))
    · rw [if_pos hc, decide_eq_true hc]; rfl
    · rw [if_neg hc, decide_eq_false hc]; rfl

/-- The entries at or below the largest entry of their row that is not above `hi`. -/
def keep (v36 : FVec Ideal S256x4096 .f32) (hi : FVec Ideal S256x1 .f32) : IVec S256x4096 1 :=
  cmpf .ole v36 (broadcastTo S256x4096 (shapeCast S256x1 (multiReduction (F := Ideal) (φ := .f32) .maximumf [1] S256
    (select (cmpf .ole v36 (broadcastTo S256x4096 hi broadcasts_S256x1_S256x4096)) v36
      (broadcast S256x4096 (Scalar.ofBits .f32 0xBF800000#32)))
    0xFF800000#32 reduces_S256x4096_S256 (.inl rfl) rfl) shapeCasts_S256_S256x1) broadcasts_S256x1_S256x4096)

/-- They are the entries not above `hi`. -/
theorem keep_apply (hv : ∀ r j, v36 (ix2 r j) = (D r j : EReal)) (hD : ∀ r j, 0 ≤ D r j) (hi : FVec Ideal S256x1 .f32)
    (x : ℝ) (r : Fin 256) (hh : hi (ix2 r 0) = (x : EReal)) (j : Fin 4096) :
    keep v36 hi (ix2 r j) = BitVec.ofBool (decide (D r j ≤ x)) := by
  pointwise [keep]
  rw [hh, ofBits_neg_inf, ofBits_neg_one]
  simp only [hv, EReal.coe_le_coe_iff]
  congr 2
  rw [Finset.le_fold_max, eq_iff_iff]
  constructor
  · rintro (h | ⟨k, -, h⟩)
    · exact absurd h (by simp)
    · by_cases hk : D r k ≤ x
      · rw [if_pos hk, EReal.coe_le_coe_iff] at h
        exact h.trans hk
      · rw [if_neg hk, EReal.coe_le_coe_iff] at h
        linarith [hD r j]
  · intro h
    exact .inr ⟨j, Finset.mem_univ _, by rw [if_pos h]⟩

/-- The kernel's choice, from its block of distances. -/
def chosen (v36 : FVec Ideal S256x4096 .f32) (v43 : IVec S256x4096 1) : IVec S256x4096 1 :=
  let v37 : FVec Ideal S256x1 .f32 := k0_pay3
  let v38 : FVec Ideal S256x1 .f32 := k0_pay4
  let v41 : FVec Ideal S256x1 .f32 := k0_pay5
  let v44 : FVec Ideal S256x4096 .f32 := k0_pay7
  let v45 : FVec Ideal S256x4096 .f32 := k0_pay8
  let v79 := k0_pay18 v36 v37 v38 v41 v43 v44 v45
  let v80 := k0_pay19 v36 v37 v38 v41 v43 v44 v45
  let v83 := k0_pay20 v36 v37 v38 v41 v43 v44 v45
  let v89 := k0_pay21 v36 v37 v38 v41 v43 v44 v45
  let v121 := k0_pay31 v36 v79 v80 v83 v89
  let v122 := k0_pay32 v36 v79 v80 v83 v89
  let v125 := k0_pay33 v36 v79 v80 v83 v89
  let v132 := k0_pay34 v36 v79 v80 v83 v89
  let v133 : FVec Ideal S256x1 .f32 := k0_pay35
  let v177 := k0_pay49 v36 v121 v122 v125 v132 v133
  let v178 := k0_pay50 v36 v121 v122 v125 v132 v133
  let v219 := k0_pay61 v36 v177 v178
  let v220 := k0_pay62 v36 v177 v178
  let v221 := k0_pay63 v36 v177 v178
  let v222 : FVec Ideal S256x1 .f32 := k0_pay64
  k0_pay79 v36 (k0_pay75 v36 v219 v220 v221 v222) (k0_pay76 v36 v219 v220 v221 v222)
    (k0_pay77 v36 v219 v220 v221 v222) (k0_pay78 v36 v219 v220 v221 v222)

/-- The interval all rows start from. -/
theorem At.start : At D 0 (k0_pay3 (F := Ideal)) (k0_pay4 (F := Ideal)) := by
  intro r
  refine ⟨?_, ?_⟩
  · pointwise [k0_pay3]; rfl
  · pointwise [k0_pay4]; exact ofBits_25

/-- The counts of the entries at or below the midpoints. -/
def counts (v36 : FVec Ideal S256x4096 .f32) (mid : FVec Ideal S256x1 .f32) : FVec Ideal S256 .f32 :=
  multiReduction (F := Ideal) (φ := .f32) .add [1] S256
    (select (cmpf .ole v36 (broadcastTo S256x4096 mid broadcasts_S256x1_S256x4096))
      (broadcast S256x4096 (Scalar.ofBits .f32 0x3F800000#32)) (broadcast S256x4096 (Scalar.ofBits .f32 0x00000000#32)))
    0x00000000#32 reduces_S256x4096_S256 (.inl rfl) rfl

/-- The first three halvings. -/
theorem halvings_3 (hv : ∀ r j, v36 (ix2 r j) = (D r j : EReal)) (v37 v38 : FVec Ideal S256x1 .f32)
    (h0 : At D 0 v37 v38) (v41 : FVec Ideal S256x1 .f32) (h41 : v41 = midpoint v37 v38) (v43 : IVec S256x4096 1)
    (h43 : v43 = cmpf .ole v36 (broadcastTo S256x4096 v41 broadcasts_S256x1_S256x4096)) :
    At D 3 (k0_pay19 v36 v37 v38 v41 v43 k0_pay7 k0_pay8) (k0_pay18 v36 v37 v38 v41 v43 k0_pay7 k0_pay8) := by
  subst h43 h41
  have h1 : At D 1 (k0_pay11 v37 (midpoint v37 v38) _ k0_pay7 k0_pay8)
    (k0_pay10 v38 (midpoint v37 v38) _ k0_pay7 k0_pay8) := h0.step hv
  have h2 : At D 2 (k0_pay15 v36 v37 v38 (midpoint v37 v38) _ k0_pay7 k0_pay8)
    (k0_pay14 v36 v37 v38 (midpoint v37 v38) _ k0_pay7 k0_pay8) := h1.step hv
  exact h2.step hv

/-- Halvings four to six. -/
theorem halvings_6 (hv : ∀ r j, v36 (ix2 r j) = (D r j : EReal)) (v79 v80 : FVec Ideal S256x1 .f32)
    (h3 : At D 3 v80 v79) (v83 : FVec Ideal S256x1 .f32) (h83 : v83 = midpoint v80 v79) (v89 : FVec Ideal S256 .f32)
    (h89 : v89 = counts v36 v83) : At D 6 (k0_pay32 v36 v79 v80 v83 v89) (k0_pay31 v36 v79 v80 v83 v89) := by
  subst h89 h83
  have h4 : At D 4 (k0_pay24 v80 (midpoint v80 v79) (counts v36 (midpoint v80 v79)))
    (k0_pay23 v79 (midpoint v80 v79) (counts v36 (midpoint v80 v79))) := h3.step hv
  have h5 : At D 5 (k0_pay28 v36 v79 v80 (midpoint v80 v79) (counts v36 (midpoint v80 v79)))
    (k0_pay27 v36 v79 v80 (midpoint v80 v79) (counts v36 (midpoint v80 v79))) := h4.step hv
  exact h5.step hv

/-- Halvings seven to ten. -/
theorem halvings_10 (hv : ∀ r j, v36 (ix2 r j) = (D r j : EReal)) (v121 v122 : FVec Ideal S256x1 .f32)
    (h6 : At D 6 v122 v121) (v125 : FVec Ideal S256x1 .f32) (h125 : v125 = midpoint v122 v121)
    (v132 : FVec Ideal S256x1 .f32) (h132 : v132 = shapeCast S256x1 (counts v36 v125) shapeCasts_S256_S256x1) :
    At D 10 (k0_pay50 v36 v121 v122 v125 v132 k0_pay35) (k0_pay49 v36 v121 v122 v125 v132 k0_pay35) := by
  subst h132 h125
  have h7 : At D 7 (k0_pay38 v122 (midpoint v122 v121) _ k0_pay35) (k0_pay37 v121 (midpoint v122 v121) _ k0_pay35) :=
    h6.step hv
  have h8 : At D 8 (k0_pay42 v36 v121 v122 (midpoint v122 v121) _ k0_pay35)
    (k0_pay41 v36 v121 v122 (midpoint v122 v121) _ k0_pay35) := h7.step hv
  have h9 : At D 9 (k0_pay46 v36 v121 v122 (midpoint v122 v121) _ k0_pay35)
    (k0_pay45 v36 v121 v122 (midpoint v122 v121) _ k0_pay35) := h8.step hv
  exact h9.step hv

/-- Halvings eleven to thirteen. -/
theorem halvings_13 (hv : ∀ r j, v36 (ix2 r j) = (D r j : EReal)) (v177 v178 : FVec Ideal S256x1 .f32)
    (h10 : At D 10 v178 v177) : At D 13 (k0_pay62 v36 v177 v178) (k0_pay61 v36 v177 v178) := by
  have h11 : At D 11 (k0_pay54 v36 v177 v178) (k0_pay53 v36 v177 v178) := h10.step hv
  have h12 : At D 12 (k0_pay58 v36 v177 v178) (k0_pay57 v36 v177 v178) := h11.step hv
  exact h12.step hv

/-- Halvings fourteen to sixteen. -/
theorem halvings_16 (hv : ∀ r j, v36 (ix2 r j) = (D r j : EReal)) (v219 v220 : FVec Ideal S256x1 .f32)
    (h13 : At D 13 v220 v219) (v221 : FVec Ideal S256x1 .f32) (h221 : v221 = addf v220 v219) :
    At D 16 (k0_pay76 v36 v219 v220 v221 k0_pay64) (k0_pay75 v36 v219 v220 v221 k0_pay64) := by
  subst h221
  have h14 : At D 14 (k0_pay68 v36 v220 (addf v220 v219) k0_pay64) (k0_pay67 v36 v219 (addf v220 v219) k0_pay64) :=
    h13.step hv
  have h15 : At D 15 (k0_pay72 v36 v219 v220 (addf v220 v219) k0_pay64)
    (k0_pay71 v36 v219 v220 (addf v220 v219) k0_pay64) := h14.step hv
  exact h15.step hv

/-- The last two halvings and the choice. -/
theorem kept (hv : ∀ r j, v36 (ix2 r j) = (D r j : EReal)) (hD : ∀ r j, 0 ≤ D r j) (v261 v262 : FVec Ideal S256x1 .f32)
    (h16 : At D 16 v262 v261) (v265 : FVec Ideal S256x1 .f32) (h265 : v265 = midpoint v262 v261) (v267 : IVec S256x4096 1)
    (h267 : v267 = cmpf .ole v36 (broadcastTo S256x4096 v265 broadcasts_S256x1_S256x4096)) (r : Fin 256) (j : Fin 4096) :
    k0_pay79 v36 v261 v262 v265 v267 (ix2 r j) = BitVec.ofBool (decide (D r j ≤ threshold (D r))) := by
  subst h267 h265
  have h18 := (h16.step hv).step hv
  exact keep_apply hv hD _ _ r (h18 r).2 j

/-- The kernel chooses the entries not above the threshold. -/
theorem chosen_apply (hv : ∀ r j, v36 (ix2 r j) = (D r j : EReal)) (hD : ∀ r j, 0 ≤ D r j) (v43 : IVec S256x4096 1)
    (h43 : v43 = cmpf .ole v36 (broadcastTo S256x4096 (k0_pay5 (F := Ideal)) broadcasts_S256x1_S256x4096))
    (r : Fin 256) (j : Fin 4096) :
    chosen v36 v43 (ix2 r j) = BitVec.ofBool (decide (D r j ≤ threshold (D r))) :=
  kept hv hD _ _
    (halvings_16 hv _ _
      (halvings_13 hv _ _
        (halvings_10 hv _ _
          (halvings_6 hv _ _ (halvings_3 hv _ _ At.start _ rfl _ h43) _ rfl _ rfl) _ rfl _ rfl)) _ rfl) _ rfl _ rfl r j

end Cert.Proof

end
-- ==== Proof.Energy.lean ====
/-
  The energy over the reals: the distances, the radial weights, what the kernel computes and what the reference
  computes, and their equality.
-/
module

public import proofs.«01_k».proof.Proof.Bisection
public import proofs.«01_k».proof.Proof.Consts
public import Mathlib.Analysis.SpecialFunctions.Trigonometric.Basic
public import Mathlib.Analysis.SpecialFunctions.Pow.Real

@[expose] public section

noncomputable section

namespace Cert.Proof

/-- Atom positions, in nanometres. -/
abbrev Pos := Fin 4096 → Fin 3 → ℝ

/-- The squared distance of atoms `i` and `j`, in square angstroms. -/
def sqDist (p : Pos) (i j : Fin 4096) : ℝ :=
  (p i 0 * 10 - p j 0 * 10) * (p i 0 * 10 - p j 0 * 10) + (p i 1 * 10 - p j 1 * 10) * (p i 1 * 10 - p j 1 * 10)
    + (p i 2 * 10 - p j 2 * 10) * (p i 2 * 10 - p j 2 * 10)

/-- The squared distances of atom `i`'s row, with the atom itself moved out of the way. -/
def rowDist (p : Pos) (i j : Fin 4096) : ℝ := if i = j then sqDist p i j + 10000000000 else sqDist p i j

/-- A squared distance is not negative. -/
theorem sqDist_nonneg (p : Pos) (i j : Fin 4096) : 0 ≤ sqDist p i j := by
  unfold sqDist
  have h := fun x : ℝ => mul_self_nonneg x
  exact add_nonneg (add_nonneg (h _) (h _)) (h _)

/-- An entry of a row is not negative. -/
theorem rowDist_nonneg (p : Pos) (i j : Fin 4096) : 0 ≤ rowDist p i j := by
  unfold rowDist
  have := sqDist_nonneg p i j
  split <;> linarith

/-- Squared distances are symmetric. -/
theorem sqDist_comm (p : Pos) (i j : Fin 4096) : sqDist p i j = sqDist p j i := by unfold sqDist; ring

/-- An entry of a row plus the small number is positive. -/
theorem rowDist_add_pos (p : Pos) (i j : Fin 4096) : 0 < rowDist p i j + eps :=
  add_pos_of_nonneg_of_pos (rowDist_nonneg p i j) eps_pos

/-- The angle of the radial functions at squared distance `z`, cut off at π. -/
def theta (z : ℝ) : ℝ := min (Real.pi * (1 / 5) * √z) Real.pi

/-- The smooth cutoff divided by the distance, at squared distance `z`. -/
def damp (z : ℝ) : ℝ := 1 / 2 * (Real.cos (theta z) + 1) * (1 / √z)

/-- The kernel's radial function number `b`, from the recurrence for the sines of the multiples of an angle. -/
def wave (z : ℝ) : ℕ → ℝ
  | 0 => Real.cos (theta z - Real.pi * (1 / 2))
  | 1 => 2 * -Real.sin (theta z - Real.pi * (1 / 2)) * Real.cos (theta z - Real.pi * (1 / 2))
  | b + 2 => 2 * -Real.sin (theta z - Real.pi * (1 / 2)) * wave z (b + 1) - wave z b

/-- The cosine a quarter turn back is the sine. -/
theorem cos_shift (t : ℝ) : Real.cos (t - Real.pi * (1 / 2)) = Real.sin t := by
  rw [show t - Real.pi * (1 / 2) = t - Real.pi / 2 by ring, Real.cos_sub_pi_div_two]

/-- The negated sine a quarter turn back is the cosine. -/
theorem sin_shift (t : ℝ) : -Real.sin (t - Real.pi * (1 / 2)) = Real.cos t := by
  rw [show t - Real.pi * (1 / 2) = t - Real.pi / 2 by ring, Real.sin_sub_pi_div_two, neg_neg]

/-- The recurrence gives the sines of the multiples of the angle. -/
theorem wave_eq (z : ℝ) (b : ℕ) : wave z b = Real.sin ((b + 1) * theta z) ∧
    wave z (b + 1) = Real.sin ((b + 2) * theta z) := by
  induction b with
  | zero =>
    refine ⟨?_, ?_⟩
    · simp [wave]; rw [← Real.cos_sub_pi_div_two]; ring_nf
    · rw [show wave z (0 + 1) = 2 * -Real.sin (theta z - Real.pi * (1 / 2)) * Real.cos (theta z - Real.pi * (1 / 2))
        from rfl, sin_shift, cos_shift]
      push_cast
      rw [show ((0 : ℝ) + 2) * theta z = 2 * theta z by ring, Real.sin_two_mul]; ring
  | succ b ih =>
    refine ⟨by rw [ih.2]; push_cast; congr 1; ring, ?_⟩
    rw [show wave z (b + 1 + 1) = 2 * -Real.sin (theta z - Real.pi * (1 / 2)) * wave z (b + 1) - wave z b from rfl,
      ih.1, ih.2, sin_shift]
    push_cast
    rw [show ((b : ℝ) + 1 + 2) * theta z = (b + 2) * theta z + theta z by ring,
      show ((b : ℝ) + 1) * theta z = (b + 2) * theta z - theta z by ring, Real.sin_add, Real.sin_sub]
    ring

/-- The reference's radial weight number `b` at squared distance `z`. -/
def refWeight (z : ℝ) (b : ℕ) : ℝ :=
  Real.sin ((1 + b) * Real.pi * √z * (1 / 5)) * (1 / √z)
    * ((if √z < 5 then 1 else 0) * (1 / 2 * (Real.cos (Real.pi * min √z 5 * (1 / 5)) + 1)))

/-- The kernel's weights are the reference's. -/
theorem weight_eq (z : ℝ) (b : ℕ) : wave z b * damp z = refWeight z b := by
  rw [(wave_eq z b).1]
  unfold damp refWeight theta
  by_cases h : √z < 5
  · rw [if_pos h, min_eq_left h.le, min_eq_left (by nlinarith [Real.pi_pos])]
    rw [show ((b : ℝ) + 1) * (Real.pi * (1 / 5) * √z) = (1 + b) * Real.pi * √z * (1 / 5) by ring,
      show Real.pi * (1 / 5) * √z = Real.pi * √z * (1 / 5) by ring]
    ring
  · push Not at h
    rw [if_neg (by linarith), min_eq_right (by nlinarith [Real.pi_pos]), Real.cos_pi]
    ring

/-- The weights vanish beyond the cutoff. -/
theorem damp_far (z : ℝ) (h : 25 ≤ z) : damp z = 0 := by
  have : 5 ≤ √z := Real.le_sqrt_of_sq_le (by linarith)
  unfold damp theta
  rw [min_eq_right (by nlinarith [Real.pi_pos]), Real.cos_pi]
  ring

variable (p : Pos) (h : Fin 4096 → Fin 32 → ℝ) (wmsg : Fin 8 → Fin 32 → ℝ)

/-- The kernel's weight of the pair: the cutoff over the distance where the pair is selected, zero elsewhere. -/
def pairScale (i j : Fin 4096) : ℝ :=
  if rowDist p i j ≤ threshold (rowDist p i) then damp (rowDist p i j + eps) else 0

/-- The kernel's message of atom `i` in feature `d`. -/
def kernelMsg (i : Fin 4096) (d : Fin 32) : ℝ :=
  ∑ b : Fin 8, (∑ j, wave (rowDist p i j + eps) b * pairScale p i j * h j d) * wmsg b d

/-- The reference's message of atom `i` in feature `d`, its neighbours being the first 32 atoms of the order `σ`. -/
def refMsg (σ : Fin 4096 → Fin 4096) (i : Fin 4096) (d : Fin 32) : ℝ :=
  ∑ k : Fin 32, (∑ b : Fin 8, refWeight (sqDist p i (σ ⟨k.val, by omega⟩) + eps) b * wmsg b d)
    * h (σ ⟨k.val, by omega⟩) d

/-- What the precondition says of one row listed in ascending order by `σ`. -/
def Apart (D : Fin 4096 → ℝ) (σ : Fin 4096 → Fin 4096) : Prop :=
  25 < D (σ 31) ∨ max (⌈D (σ 31) / (25 / 2 ^ 18)⌉ : ℝ) 1 * (25 / 2 ^ 18) < D (σ 32)

/-- With positions at most `1000` an atom is never among its own 32 nearest. -/
theorem self_not_near (hp : ∀ i c, |p i c| ≤ 1000) (i : Fin 4096) (σ : Fin 4096 → Fin 4096)
    (hσ : Function.Bijective σ) (hm : Monotone (rowDist p i ∘ σ)) (k : Fin 32) :
    i ≠ σ ⟨k.val, by omega⟩ := by
  intro hi
  have hb : ∀ j, sqDist p i j ≤ 1200000000 := by
    intro j
    unfold sqDist
    have hc : ∀ c, (p i c * 10 - p j c * 10) * (p i c * 10 - p j c * 10) ≤ 400000000 := by
      intro c
      have h1 := abs_le.1 (hp i c)
      have h2 := abs_le.1 (hp j c)
      nlinarith [h1.1, h1.2, h2.1, h2.2]
    linarith [hc 0, hc 1, hc 2]
  have h1 : rowDist p i (σ ⟨k.val, by omega⟩) ≤ rowDist p i (σ 32) :=
    hm (by rw [Fin.le_def]; simp)
  have hne : i ≠ σ 32 := by
    intro h2
    have := hσ.1 (hi.symm.trans h2)
    have h3 := congrArg Fin.val this
    simp at h3
    omega
  have h2 := hb (σ 32)
  rw [← hi] at h1
  unfold rowDist at h1
  rw [if_pos rfl, if_neg hne] at h1
  linarith [sqDist_nonneg p i i]

/-- The kernel's message is the reference's. -/
theorem msg_eq (hp : ∀ i c, |p i c| ≤ 1000) (i : Fin 4096) (σ : Fin 4096 → Fin 4096) (hσ : Function.Bijective σ)
    (hm : Monotone (rowDist p i ∘ σ)) (hsep : Apart (rowDist p i) σ) (d : Fin 32) :
    kernelMsg p h wmsg i d = refMsg p h wmsg σ i d := by
  unfold kernelMsg refMsg
  have key : ∀ b : Fin 8, (∑ j, wave (rowDist p i j + eps) b * pairScale p i j * h j d)
      = ∑ k : Fin 32, refWeight (sqDist p i (σ ⟨k.val, by omega⟩) + eps) b * h (σ ⟨k.val, by omega⟩) d := by
    intro b
    have hs := select_sum (rowDist p i) σ hσ hm (by norm_num) hsep
      (fun j => wave (rowDist p i j + eps) b * damp (rowDist p i j + eps) * h j d)
      (fun j hj => by rw [damp_far _ (by linarith [eps_pos])]; ring)
    rw [show (∑ j, wave (rowDist p i j + eps) b * pairScale p i j * h j d)
        = ∑ j, if rowDist p i j ≤ threshold (rowDist p i)
            then wave (rowDist p i j + eps) b * damp (rowDist p i j + eps) * h j d else 0 from
      Finset.sum_congr rfl fun j _ => by unfold pairScale; split <;> ring]
    rw [hs]
    refine Finset.sum_congr rfl fun k _ => ?_
    rw [weight_eq]
    have := self_not_near p hp i σ hσ hm k
    unfold rowDist
    rw [if_neg this]
  rw [Finset.sum_congr rfl fun b _ => by rw [key b]]
  simp only [Finset.sum_mul]
  rw [Finset.sum_comm]
  refine Finset.sum_congr rfl fun k _ => Finset.sum_congr rfl fun b _ => ?_
  ring

end Cert.Proof

end
-- ==== Proof.KernelPair.lean ====
/-
  The kernel's values for one pair of atoms, over the reals: the distance by two Newton steps, the angle, the radial
  functions and the scale.
-/
module

public import proofs.«01_k».proof.Proof.KernelSelect
public import proofs.«01_k».proof.Proof.Energy

@[expose] public section

noncomputable section

namespace Cert.Proof

open Idealize.ShloMosaic Idealize.SL.Sem Cert.KernelIdeal Cert.KernelIdeal.Gen

/-- A finite sum of reals is the same sum in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The smaller of two reals is the same in the extended reals. -/
theorem coe_min (a b : ℝ) : min (a : EReal) b = ((min a b : ℝ) : EReal) :=
  (EReal.coe_strictMono.monotone.map_min).symm

/-- The reciprocal square root of a positive real. -/
theorem rsqrt_pos {z : ℝ} (hz : 0 < z) : Ideal.rsqrt (z : EReal) = ((1 / √z : ℝ) : EReal) := by
  rw [Ideal.rsqrt_coe, if_neg (not_lt.mpr hz.le), if_neg hz.ne', one_div]

/-- A Newton step for the reciprocal square root stays at it. -/
theorem newton {z : ℝ} (hz : 0 < z) : 1 / √z * (3 / 2 - 1 / 2 * z * (1 / √z) * (1 / √z)) = 1 / √z := by
  have h := Real.sqrt_pos.mpr hz
  have h2 := Real.mul_self_sqrt hz.le
  have : 1 / 2 * z * (1 / √z) * (1 / √z) = 1 / 2 := by
    field_simp
    nlinarith
  rw [this]
  ring

/-- A number times its reciprocal square root is its square root. -/
theorem mul_rsqrt {z : ℝ} (hz : 0 < z) : z * (1 / √z) = √z := by
  have h := Real.sqrt_pos.mpr hz
  have h2 := Real.mul_self_sqrt hz.le
  field_simp
  nlinarith

variable {D : Fin 256 → Fin 4096 → ℝ} {v36 : FVec Ideal S256x4096 .f32}

/-- The squared distance with the small number added. -/
theorem pay82_apply (hv : ∀ r j, v36 (ix2 r j) = (D r j : EReal)) (r : Fin 256) (j : Fin 4096) :
    k0_pay82 v36 (ix2 r j) = ((D r j + eps : ℝ) : EReal) := by
  pointwise [k0_pay82]
  rw [hv, ofBits_eps, ← EReal.coe_add]

/-- The first Newton step. -/
theorem pay83_apply (hv : ∀ r j, v36 (ix2 r j) = (D r j : EReal)) (hD : ∀ r j, 0 ≤ D r j) (r : Fin 256)
    (j : Fin 4096) : k0_pay83 v36 (ix2 r j) = ((1 / √(D r j + eps) : ℝ) : EReal) := by
  have hz : 0 < D r j + eps := add_pos_of_nonneg_of_pos (hD r j) eps_pos
  pointwise [k0_pay83]
  rw [pay82_apply hv, rsqrt_pos hz, ofBits_half, ofBits_three_halves, ← EReal.coe_mul, ← EReal.coe_mul, ← EReal.coe_mul,
    ← EReal.coe_sub, ← EReal.coe_mul, newton hz]

/-- Two arrays hold the numbers `z`, all positive, and their reciprocal square roots. -/
def Inverse (z : Fin 256 → Fin 4096 → ℝ) (v302 v310 : FVec Ideal S256x4096 .f32) : Prop :=
  ∀ r j, 0 < z r j ∧ v302 (ix2 r j) = (z r j : EReal) ∧ v310 (ix2 r j) = ((1 / √(z r j) : ℝ) : EReal)

variable {z : Fin 256 → Fin 4096 → ℝ} {v302 v310 : FVec Ideal S256x4096 .f32}

/-- The second Newton step. -/
theorem pay84_apply (h : Inverse z v302 v310) (r : Fin 256) (j : Fin 4096) :
    k0_pay84 v302 v310 (ix2 r j) = ((1 / √(z r j) : ℝ) : EReal) := by
  obtain ⟨hz, h2, h3⟩ := h r j
  pointwise [k0_pay84]
  rw [h2, h3, ofBits_half, ofBits_three_halves, ← EReal.coe_mul, ← EReal.coe_mul, ← EReal.coe_mul, ← EReal.coe_sub,
    ← EReal.coe_mul, newton hz]

/-- The angle less a right angle. -/
theorem pay85_apply (h : Inverse z v302 v310) (r : Fin 256) (j : Fin 4096) :
    k0_pay85 v302 v310 (ix2 r j) = ((theta (z r j) - Real.pi * (1 / 2) : ℝ) : EReal) := by
  obtain ⟨hz, h2, h3⟩ := h r j
  pointwise [k0_pay85]
  have e1 : Named.named (F := Ideal) κ "pi_fifth" (φ := .f32) 0x3F20D97C#32 = ((Real.pi * (1 / 5) : ℝ) : EReal) :=
    IdealRules.named_const.ideal_named_scalar _ _ _ _ rfl
  have e2 : Named.named (F := Ideal) κ "pi" (φ := .f32) 0x40490FDB#32 = ((Real.pi : ℝ) : EReal) :=
    IdealRules.named_const.ideal_named_scalar _ _ _ _ rfl
  have e3 : Named.named (F := Ideal) κ "pi_half" (φ := .f32) 0x3FC90FDB#32 = ((Real.pi * (1 / 2) : ℝ) : EReal) :=
    IdealRules.named_const.ideal_named_scalar _ _ _ _ rfl
  erw [e1, e2, e3]
  rw [pay84_apply h, h2, ← EReal.coe_mul, mul_rsqrt hz, ← EReal.coe_mul, coe_min, ← EReal.coe_sub]
  rfl

/-- Its cosine. -/
theorem pay86_apply (h : Inverse z v302 v310) (r : Fin 256) (j : Fin 4096) :
    k0_pay86 v302 v310 (ix2 r j) = ((wave (z r j) 0 : ℝ) : EReal) := by
  pointwise [k0_pay86]
  rw [pay85_apply h, Ideal.cos_coe]
  rfl

/-- Minus its sine. -/
theorem pay87_apply (h : Inverse z v302 v310) (r : Fin 256) (j : Fin 4096) :
    k0_pay87 v302 v310 (ix2 r j) = ((-Real.sin (theta (z r j) - Real.pi * (1 / 2)) : ℝ) : EReal) := by
  pointwise [k0_pay87]
  rw [pay85_apply h, Ideal.sin_coe, zero_sub, ← EReal.coe_neg]

/-- The scale of a pair: the cutoff divided by the distance where the pair is chosen. -/
theorem pay88_apply (h : Inverse z v302 v310) (v297 : IVec S256x4096 1) (r : Fin 256) (j : Fin 4096) (c : Prop)
    [Decidable c] (hc : v297 (ix2 r j) = BitVec.ofBool (decide c)) :
    k0_pay88 v297 v302 v310 (ix2 r j) = ((if c then damp (z r j) else 0 : ℝ) : EReal) := by
  pointwise [k0_pay88]
  rw [pay87_apply h, pay84_apply h, ofBits_half, hc]
  by_cases h : c
  · rw [if_pos h, decide_eq_true h, sin_shift, ← EReal.coe_one, ← EReal.coe_add, ← EReal.coe_mul, ← EReal.coe_mul]
    rfl
  · rw [if_neg h, decide_eq_false h]
    rfl

/-- The recurrence's factor. -/
theorem pay89_apply (h : Inverse z v302 v310) (r : Fin 256) (j : Fin 4096) :
    k0_pay89 v302 v310 (ix2 r j) = ((2 * -Real.sin (theta (z r j) - Real.pi * (1 / 2)) : ℝ) : EReal) := by
  pointwise [k0_pay89]
  rw [pay87_apply h, ofBits_two, ← EReal.coe_mul]

/-- The arrays hold the first radial function and the recurrence's factor. -/
def Waves (z : Fin 256 → Fin 4096 → ℝ) (v325 v337 : FVec Ideal S256x4096 .f32) : Prop :=
  ∀ r j, v325 (ix2 r j) = ((wave (z r j) 0 : ℝ) : EReal)
    ∧ v337 (ix2 r j) = ((2 * -Real.sin (theta (z r j) - Real.pi * (1 / 2)) : ℝ) : EReal)

variable {v325 v337 : FVec Ideal S256x4096 .f32}

/-- The second radial function. -/
theorem pay96_apply (h : Waves z v325 v337) (r : Fin 256) (j : Fin 4096) :
    k0_pay96 v325 v337 (ix2 r j) = ((wave (z r j) 1 : ℝ) : EReal) := by
  pointwise [k0_pay96]
  rw [(h r j).1, (h r j).2, ← EReal.coe_mul]
  rfl

/-- The third. -/
theorem pay97_apply (h : Waves z v325 v337) (r : Fin 256) (j : Fin 4096) :
    k0_pay97 v325 v337 (ix2 r j) = ((wave (z r j) 2 : ℝ) : EReal) := by
  pointwise [k0_pay97]
  rw [pay96_apply h, (h r j).1, (h r j).2, ← EReal.coe_mul, ← EReal.coe_sub]
  rfl

/-- The fourth. -/
theorem pay98_apply (h : Waves z v325 v337) (r : Fin 256) (j : Fin 4096) :
    k0_pay98 v325 v337 (ix2 r j) = ((wave (z r j) 3 : ℝ) : EReal) := by
  pointwise [k0_pay98]
  rw [pay97_apply h, pay96_apply h, (h r j).2, ← EReal.coe_mul, ← EReal.coe_sub]
  rfl

/-- The fifth. -/
theorem pay99_apply (h : Waves z v325 v337) (r : Fin 256) (j : Fin 4096) :
    k0_pay99 v325 v337 (ix2 r j) = ((wave (z r j) 4 : ℝ) : EReal) := by
  pointwise [k0_pay99]
  rw [pay98_apply h, pay97_apply h, (h r j).2, ← EReal.coe_mul, ← EReal.coe_sub]
  rfl

/-- The sixth. -/
theorem pay101_apply (h : Waves z v325 v337) (r : Fin 256) (j : Fin 4096) :
    k0_pay101 v325 v337 (ix2 r j) = ((wave (z r j) 5 : ℝ) : EReal) := by
  pointwise [k0_pay101]
  rw [pay99_apply h, pay98_apply h, (h r j).2, ← EReal.coe_mul, ← EReal.coe_sub]
  rfl

end Cert.Proof

end
-- ==== Proof.KernelBlock.lean ====
/-
  One block of 256 rows: the sum over the block's atoms of their energies.
-/
module

public import proofs.«01_k».proof.Proof.KernelPair

@[expose] public section

noncomputable section

namespace Cert.Proof

open Idealize.ShloMosaic Idealize.SL.Sem Cert.KernelIdeal Cert.KernelIdeal.Gen

/-- What one block of rows adds, before the conversion of units: from its distances and their first comparison, the
    message weights, all atoms' features, the block's own features and the output weights. -/
def blockSum (v36 : FVec Ideal S256x4096 .f32) (v43 : IVec S256x4096 1) (x4 : FVec Ideal S8x32 .f32)
    (hs : FVec Ideal S4096x32 .f32) (hb : FVec Ideal S256x32 .f32) (x5 : FVec Ideal S1x32 .f32) : FVec Ideal S1x1 .f32 :=
  let v297 := chosen v36 v43
  let v302 := k0_pay82 v36
  let v310 := k0_pay83 v36
  let v325 := k0_pay86 v302 v310
  let v335 := k0_pay88 v297 v302 v310
  let v337 := k0_pay89 v302 v310
  let v339 := k0_pay90 hs
  let v342 := k0_pay91 hs
  let v345 := k0_pay92 x4
  let v398 := k0_pay100 v325 v335 v337 v339 v342 v345 k0_pay93 (k0_pay94 v297 v302 v310 hs) (k0_pay95 x4)
  k0_pay104 v335 v337 v339 v342 v345 (k0_pay99 v325 v337) v398 (k0_pay101 v325 v337) (k0_pay102 v325 v335 v337)
    (k0_pay103 v325 v335 v337 v339) (constant S256x32 .f32 0x00000000#32) hb x5

/-- The message of row `r` in feature `d`, from the squared distances, the scales, the features and the weights. -/
def rowMsg (z s : Fin 256 → Fin 4096 → ℝ) (h : Fin 4096 → Fin 32 → ℝ) (w : Fin 8 → Fin 32 → ℝ) (r : Fin 256)
    (d : Fin 32) : ℝ :=
  ∑ b : Fin 8, (∑ j, wave (z r j) b * s r j * h j d) * w b d

section

variable {z s : Fin 256 → Fin 4096 → ℝ} {h : Fin 4096 → Fin 32 → ℝ} {w : Fin 8 → Fin 32 → ℝ}
  {v325 v335 v337 : FVec Ideal S256x4096 .f32} {v339 v342 : FVec Ideal S4096x32 .bf16} {v345 : FVec Ideal S8x32 .f32}

/-- The second to fifth terms of the messages added to the first. -/
theorem pay100_apply (hw : Waves z v325 v337) (hs : ∀ r j, v335 (ix2 r j) = (s r j : EReal))
    (h1 : ∀ j d, v339 (ix2 j d) = (h j d : EReal)) (h2 : ∀ j d, v342 (ix2 j d) = ((0 : ℝ) : EReal))
    (h3 : ∀ b d, v345 (ix2 b d) = (w b d : EReal)) (v346 v351 v353 : FVec Ideal S256x32 .f32) (r : Fin 256) (d : Fin 32)
    (h4 : v346 (ix2 r d) = ((0 : ℝ) : EReal))
    (h5 : v351 (ix2 r d) = ((∑ j, wave (z r j) 0 * s r j * h j d : ℝ) : EReal)) (h6 : v353 (ix2 r d) = (w 0 d : EReal)) :
    k0_pay100 v325 v335 v337 v339 v342 v345 v346 v351 v353 (ix2 r d)
      = (((∑ j, wave (z r j) 0 * s r j * h j d) * w 0 d + (∑ j, wave (z r j) 1 * s r j * h j d) * w 1 d
        + (∑ j, wave (z r j) 2 * s r j * h j d) * w 2 d + (∑ j, wave (z r j) 3 * s r j * h j d) * w 3 d
        + (∑ j, wave (z r j) 4 * s r j * h j d) * w 4 d : ℝ) : EReal) := by
  pointwise [k0_pay100]
  simp only [pay96_apply hw, pay97_apply hw, pay98_apply hw, pay99_apply hw, hs, h1, h2, h3, h4, h5, h6,
    ← EReal.coe_mul, ← EReal.coe_add, coe_sum, mul_zero, Finset.sum_const_zero, add_zero, zero_add]

/-- The whole block. -/
theorem pay104_apply (hw : Waves z v325 v337) (hs : ∀ r j, v335 (ix2 r j) = (s r j : EReal))
    (h1 : ∀ j d, v339 (ix2 j d) = (h j d : EReal)) (h2 : ∀ j d, v342 (ix2 j d) = ((0 : ℝ) : EReal))
    (h3 : ∀ b d, v345 (ix2 b d) = (w b d : EReal)) (v398 : FVec Ideal S256x32 .f32)
    (h4 : ∀ r d, v398 (ix2 r d)
      = (((∑ j, wave (z r j) 0 * s r j * h j d) * w 0 d + (∑ j, wave (z r j) 1 * s r j * h j d) * w 1 d
        + (∑ j, wave (z r j) 2 * s r j * h j d) * w 2 d + (∑ j, wave (z r j) 3 * s r j * h j d) * w 3 d
        + (∑ j, wave (z r j) 4 * s r j * h j d) * w 4 d : ℝ) : EReal))
    (hb : FVec Ideal S256x32 .f32) (own : Fin 256 → Fin 32 → ℝ) (h5 : ∀ r d, hb (ix2 r d) = (own r d : EReal))
    (x5 : FVec Ideal S1x32 .f32) (wout : Fin 32 → EReal) (h6 : ∀ d, x5 (ix2 0 d) = wout d) :
    k0_pay104 v335 v337 v339 v342 v345 (k0_pay99 v325 v337) v398 (k0_pay101 v325 v337) (k0_pay102 v325 v335 v337)
      (k0_pay103 v325 v335 v337 v339) (constant S256x32 .f32 0x00000000#32) hb x5 (ix2 0 0)
      = ∑ r, ∑ d, ((own r d + rowMsg z s h w r d : ℝ) : EReal) * wout d := by
  have h402 : ∀ r j, k0_pay102 v325 v335 v337 (ix2 r j) = ((wave (z r j) 5 * s r j : ℝ) : EReal) := by
    intro r j
    pointwise [k0_pay102]
    rw [pay101_apply hw, hs, ← EReal.coe_mul]
  have h403 : ∀ r d, k0_pay103 v325 v335 v337 v339 (ix2 r d)
      = ((∑ j, wave (z r j) 5 * s r j * h j d : ℝ) : EReal) := by
    intro r d
    pointwise [k0_pay103]
    simp only [h402, h1, ← EReal.coe_mul, coe_sum]
  pointwise [k0_pay104]
  simp only [pay99_apply hw, pay101_apply hw, h402, h403, hs, h1, h2, h3, h4, h5, h6, (hw _ _).2,
    ← EReal.coe_mul, ← EReal.coe_add, ← EReal.coe_sub, coe_sum, mul_zero, Finset.sum_const_zero, add_zero, zero_add]
  refine Finset.sum_congr rfl fun r _ => Finset.sum_congr rfl fun d _ => ?_
  rw [rowMsg, Fin.sum_univ_eight]
  rfl

end

/-- A block's sum. -/
theorem blockSum_apply {D : Fin 256 → Fin 4096 → ℝ} {v36 : FVec Ideal S256x4096 .f32}
    (hv : ∀ r j, v36 (ix2 r j) = (D r j : EReal)) (hD : ∀ r j, 0 ≤ D r j) (v43 : IVec S256x4096 1)
    (h43 : v43 = cmpf .ole v36 (broadcastTo S256x4096 (k0_pay5 (F := Ideal)) broadcasts_S256x1_S256x4096))
    (x4 : FVec Ideal S8x32 .f32) (w : Fin 8 → Fin 32 → ℝ) (hw : ∀ b d, x4 (ix2 b d) = (w b d : EReal))
    (hs : FVec Ideal S4096x32 .f32) (h : Fin 4096 → Fin 32 → ℝ) (hh : ∀ j d, hs (ix2 j d) = (h j d : EReal))
    (hb : FVec Ideal S256x32 .f32) (own : Fin 256 → Fin 32 → ℝ) (ho : ∀ r d, hb (ix2 r d) = (own r d : EReal))
    (x5 : FVec Ideal S1x32 .f32) (wout : Fin 32 → EReal) (h5 : ∀ d, x5 (ix2 0 d) = wout d) :
    blockSum v36 v43 x4 hs hb x5 (ix2 0 0)
      = ∑ r, ∑ d, ((own r d + rowMsg (fun r j => D r j + eps)
          (fun r j => if D r j ≤ threshold (D r) then damp (D r j + eps) else 0) h w r d : ℝ) : EReal) * wout d := by
  have hinv : Inverse (fun r j => D r j + eps) (k0_pay82 v36) (k0_pay83 v36) := fun r j =>
    ⟨add_pos_of_nonneg_of_pos (hD r j) eps_pos, pay82_apply hv r j, pay83_apply hv hD r j⟩
  have hwaves : Waves (fun r j => D r j + eps) (k0_pay86 (k0_pay82 v36) (k0_pay83 v36))
      (k0_pay89 (k0_pay82 v36) (k0_pay83 v36)) := fun r j => ⟨pay86_apply hinv r j, pay89_apply hinv r j⟩
  have h88 := fun r j => pay88_apply hinv (chosen v36 v43) r j _ (chosen_apply hv hD v43 h43 r j)
  have h90 : ∀ j d, k0_pay90 (F := Ideal) hs (ix2 j d) = (h j d : EReal) := by
    intro j d
    pointwise [k0_pay90]
    exact hh j d
  have h91 : ∀ j d, k0_pay91 (F := Ideal) hs (ix2 j d) = ((0 : ℝ) : EReal) := by
    intro j d
    pointwise [k0_pay91]
    rw [h90, hh, ← EReal.coe_sub, sub_self]
  have h92 : ∀ b d, k0_pay92 (F := Ideal) x4 (ix2 b d) = (w b d : EReal) := by
    intro b d
    pointwise [k0_pay92]
    exact hw b d
  refine pay104_apply hwaves h88 h90 h91 h92 _ (fun r d => ?_) hb own ho x5 wout h5
  refine pay100_apply hwaves h88 h90 h91 h92 _ _ _ r d ?_ ?_ ?_
  · pointwise [k0_pay93]
    rfl
  · pointwise [k0_pay94]
    simp only [h90, h91, h88, pay86_apply hinv, ← EReal.coe_mul, coe_sum, ← EReal.coe_add, mul_zero,
      Finset.sum_const_zero, add_zero]
  · pointwise [k0_pay95]
    exact h92 0 d

end Cert.Proof

end
-- ==== Proof.KernelTerm.lean ====
/-
  What the kernel's body leaves at one grid point, in its output and in its scratch, as terms of what it reads.
-/
module

public import proofs.«01_k».proof.Proof.KernelBlock
public import proofs.«01_k».proof.Proof.Gen.KernelIdeal.Value
public import Idealize.ShloMosaic.Lib.Pointwise
public import Idealize.ShloMosaic.Lib.Tactic

@[expose] public section

noncomputable section

namespace Cert.Proof

open Idealize.ShloMosaic Idealize.ShloMosaic.TcCoe Idealize.SL.Sem Cert.KernelIdeal Cert.KernelIdeal.Gen

/-- The two spellings of the zero offset. -/
theorem hz : (![0, 0] : Fin 2 → Nat) = fun _ => 0 := funext fun a => by fin_cases a <;> rfl

/-- The block's own rows of the scratch. -/
def ownRows (i : grid0.Coords) (xs : Vec Ideal S4096x32 .f32) : Vec Ideal S256x32 .f32 :=
  View.ld xs (Rect.unit (s := S4096x32) (k0_off1 i) S256x32.size (k0_off1_inb i))

/-- What a grid point leaves in the output, from what its inputs, output and scratch hold. -/
def outTerm (i : grid0.Coords) (x0 : Vec Ideal S256x8 .f32) (x1 : Vec Ideal S8x4096 .f32) (x2 : Vec Ideal S4096x16 .f32)
    (x3 : Vec Ideal S16x32 .f32) (x4 : Vec Ideal S8x32 .f32) (x5 : Vec Ideal S1x32 .f32) (xo : Vec Ideal S1x1 .f32)
    (xs : Vec Ideal S4096x32 .f32) : Vec Ideal S1x1 .f32 :=
  k0_pay1 (blockSum (k0_pay2 i x0 x1) (k0_pay6 i x0 x1) x4 xs (ownRows i xs) x5) (k0_pay105 xo) k0_pay106

/-- The output after a grid point that is not the first. -/
theorem out_B (c : Dev nD) (i : grid0.Coords) (arg1 : Memref sig .tc .vmem S256x8 .f32) (harg1 : arg1.IsWhole)
    (arg2 : Memref sig .tc .vmem S8x4096 .f32) (harg2 : arg2.IsWhole) (arg3 : Memref sig .tc .vmem S4096x16 .f32)
    (harg3 : arg3.IsWhole) (arg4 : Memref sig .tc .vmem S16x32 .f32) (harg4 : arg4.IsWhole)
    (arg5 : Memref sig .tc .vmem S8x32 .f32) (harg5 : arg5.IsWhole) (arg6 : Memref sig .tc .vmem S1x32 .f32)
    (harg6 : arg6.IsWhole) (arg7 : Memref sig .tc .vmem S1x1 .f32) (harg7 : arg7.IsWhole)
    (arg8 : Memref sig .tc .vmem S4096x32 .f32) (harg8 : arg8.IsWhole) (hc0 : ¬cond0_0 i) (x0 : Vec Ideal S256x8 .f32)
    (x1 : Vec Ideal S8x4096 .f32) (x2 : Vec Ideal S4096x16 .f32) (x3 : Vec Ideal S16x32 .f32) (x4 : Vec Ideal S8x32 .f32)
    (x5 : Vec Ideal S1x32 .f32) (xo : Vec Ideal S1x1 .f32) (xs : Vec Ideal S4096x32 .f32) :
    out0_B_6 c i arg1 harg1 arg2 harg2 arg3 harg3 arg4 harg4 arg5 harg5 arg6 harg6 arg7 harg7 arg8 harg8 hc0 x0 x1 x2 x3
        x4 x5 xo xs = outTerm i x0 x1 x2 x3 x4 x5 xo xs := by
  unfold out0_B_6
  rw [View.read_writes_eq_canon _ _ _ (cover0_B_6 c i arg1 harg1 arg2 harg2 arg3 harg3 arg4 harg4 arg5 harg5 arg6 harg6
      arg7 harg7 arg8 harg8 hc0 x0 x1 x2 x3 x4 x5 xo xs)]
  unfold kernelRun0_B
  dsimp only
  rw [View.canon_unit_zero hz]
  sl_unfold_words
  simp only [View.readAt_eq_ld, harg1.read_unread, harg2.read_unread, harg3.read_unread, harg4.read_unread,
      harg5.read_unread, harg6.read_unread, harg7.read_unread, harg8.read_unread, View.ld_unit_zero (S := S256x8) hz,
      View.ld_unit_zero (S := S8x4096) hz, View.ld_unit_zero (S := S8x32) hz, View.ld_unit_zero (S := S4096x16) hz,
      View.ld_unit_zero (S := S16x32) hz, View.ld_unit_zero (S := S1x32) hz, View.ld_unit_zero (S := S1x1) hz,
      View.ld_unit_zero (S := S4096x32) hz]
  rfl

/-- Reading all of a buffer after writing all of it gives what was written. -/
theorem read_whole (v : View sig .tc .vmem S4096x32 .f32) (w : Vec Ideal S4096x32 .f32) :
    View.read (Elt Ideal) v (v.writes (Elt Ideal) v.junk
      [⟨Rect.unit (s := S4096x32) ![0, 0] ![4096, 32] inb_S4096x32_S4096x32_0_0, w⟩]) = w := by
  let L : List (View.Piece (Elt Ideal) S4096x32 .f32) := [⟨Rect.unit
      (s := S4096x32) ![0, 0] ![4096, 32] inb_S4096x32_S4096x32_0_0, w⟩]
  have hc : ∀ y : S4096x32.Idx, ∃ p ∈ L, y ∈ p.1.set := fun y =>
    View.cover_of_tiledL L S4096x32.size (by sl_kernel_rfl) y
  rw [View.read_writes_eq_canon _ _ _ hc, View.canon_unit_zero hz]

/-- The output after the first grid point. -/
theorem out_A (c : Dev nD) (i : grid0.Coords) (arg1 : Memref sig .tc .vmem S256x8 .f32) (harg1 : arg1.IsWhole)
    (arg2 : Memref sig .tc .vmem S8x4096 .f32) (harg2 : arg2.IsWhole) (arg3 : Memref sig .tc .vmem S4096x16 .f32)
    (harg3 : arg3.IsWhole) (arg4 : Memref sig .tc .vmem S16x32 .f32) (harg4 : arg4.IsWhole)
    (arg5 : Memref sig .tc .vmem S8x32 .f32) (harg5 : arg5.IsWhole) (arg6 : Memref sig .tc .vmem S1x32 .f32)
    (harg6 : arg6.IsWhole) (arg7 : Memref sig .tc .vmem S1x1 .f32) (harg7 : arg7.IsWhole)
    (arg8 : Memref sig .tc .vmem S4096x32 .f32) (harg8 : arg8.IsWhole) (hc0 : cond0_0 i) (x0 : Vec Ideal S256x8 .f32)
    (x1 : Vec Ideal S8x4096 .f32) (x2 : Vec Ideal S4096x16 .f32) (x3 : Vec Ideal S16x32 .f32) (x4 : Vec Ideal S8x32 .f32)
    (x5 : Vec Ideal S1x32 .f32) :
    out0_A_6 c i arg1 harg1 arg2 harg2 arg3 harg3 arg4 harg4 arg5 harg5 arg6 harg6 arg7 harg7 arg8 harg8 hc0 x0 x1 x2 x3
        x4 x5 = outTerm i x0 x1 x2 x3 x4 x5 (k0_pay81 (F := Ideal)) (k0_pay80 x2 x3) := by
  unfold out0_A_6
  rw [View.read_writes_eq_canon _ _ _ (cover0_A_6 c i arg1 harg1 arg2 harg2 arg3 harg3 arg4 harg4 arg5 harg5 arg6 harg6
      arg7 harg7 arg8 harg8 hc0 x0 x1 x2 x3 x4 x5)]
  unfold kernelRun0_A
  dsimp only
  rw [View.canon_cons_unit_zero (S := S1x1) hz]
  sl_unfold_words
  simp only [View.readAt_eq_ld, harg1.read_unread, harg2.read_unread, harg3.read_unread, harg4.read_unread,
      harg5.read_unread, harg6.read_unread, harg7.read_unread, harg8.read_unread, View.ld_unit_zero (S := S256x8) hz,
      View.ld_unit_zero (S := S8x4096) hz, View.ld_unit_zero (S := S8x32) hz, View.ld_unit_zero (S := S4096x16) hz,
      View.ld_unit_zero (S := S16x32) hz, View.ld_unit_zero (S := S1x32) hz, View.ld_unit_zero (S := S1x1) hz,
      View.ld_unit_zero (S := S4096x32) hz]
  rw [View.readCov_unit_zero (S := S4096x32) _ hz, View.readCov_unit_zero (S := S1x1) _ hz, read_whole arg8.view]
  rfl

/-- The scratch after the first grid point. -/
theorem sout_A (c : Dev nD) (i : grid0.Coords) (arg1 : Memref sig .tc .vmem S256x8 .f32) (harg1 : arg1.IsWhole)
    (arg2 : Memref sig .tc .vmem S8x4096 .f32) (harg2 : arg2.IsWhole) (arg3 : Memref sig .tc .vmem S4096x16 .f32)
    (harg3 : arg3.IsWhole) (arg4 : Memref sig .tc .vmem S16x32 .f32) (harg4 : arg4.IsWhole)
    (arg5 : Memref sig .tc .vmem S8x32 .f32) (harg5 : arg5.IsWhole) (arg6 : Memref sig .tc .vmem S1x32 .f32)
    (harg6 : arg6.IsWhole) (arg7 : Memref sig .tc .vmem S1x1 .f32) (harg7 : arg7.IsWhole)
    (arg8 : Memref sig .tc .vmem S4096x32 .f32) (harg8 : arg8.IsWhole) (hc0 : cond0_0 i) (x0 : Vec Ideal S256x8 .f32)
    (x1 : Vec Ideal S8x4096 .f32) (x2 : Vec Ideal S4096x16 .f32) (x3 : Vec Ideal S16x32 .f32) (x4 : Vec Ideal S8x32 .f32)
    (x5 : Vec Ideal S1x32 .f32) :
    sout0_A_0 c i arg1 harg1 arg2 harg2 arg3 harg3 arg4 harg4 arg5 harg5 arg6 harg6 arg7 harg7 arg8 harg8 hc0 x0 x1 x2
        x3 x4 x5 = k0_pay80 x2 x3 := by
  unfold sout0_A_0
  rw [View.read_writes_eq_canon _ _ _ (scover0_A_0 c i arg1 harg1 arg2 harg2 arg3 harg3 arg4 harg4 arg5 harg5 arg6 harg6
      arg7 harg7 arg8 harg8 hc0 x0 x1 x2 x3 x4 x5)]
  unfold kernelRun0_A
  dsimp only
  sl_unfold_words
  rw [View.canon_unit_zero hz]
  simp only [View.readAt_eq_ld, harg3.read_unread, harg4.read_unread, View.ld_unit_zero (S := S4096x16) hz,
      View.ld_unit_zero (S := S16x32) hz]

/-- The scratch after a grid point that is not the first. -/
theorem sout_B (c : Dev nD) (i : grid0.Coords) (arg1 : Memref sig .tc .vmem S256x8 .f32) (harg1 : arg1.IsWhole)
    (arg2 : Memref sig .tc .vmem S8x4096 .f32) (harg2 : arg2.IsWhole) (arg3 : Memref sig .tc .vmem S4096x16 .f32)
    (harg3 : arg3.IsWhole) (arg4 : Memref sig .tc .vmem S16x32 .f32) (harg4 : arg4.IsWhole)
    (arg5 : Memref sig .tc .vmem S8x32 .f32) (harg5 : arg5.IsWhole) (arg6 : Memref sig .tc .vmem S1x32 .f32)
    (harg6 : arg6.IsWhole) (arg7 : Memref sig .tc .vmem S1x1 .f32) (harg7 : arg7.IsWhole)
    (arg8 : Memref sig .tc .vmem S4096x32 .f32) (harg8 : arg8.IsWhole) (hc0 : ¬cond0_0 i) (x0 : Vec Ideal S256x8 .f32)
    (x1 : Vec Ideal S8x4096 .f32) (x2 : Vec Ideal S4096x16 .f32) (x3 : Vec Ideal S16x32 .f32) (x4 : Vec Ideal S8x32 .f32)
    (x5 : Vec Ideal S1x32 .f32) (xo : Vec Ideal S1x1 .f32) (xs : Vec Ideal S4096x32 .f32) :
    sout0_B_0 c i arg1 harg1 arg2 harg2 arg3 harg3 arg4 harg4 arg5 harg5 arg6 harg6 arg7 harg7 arg8 harg8 hc0 x0 x1 x2
        x3 x4 x5 xo xs = xs := by
  rfl

end Cert.Proof

end
-- ==== Proof.KernelInput.lean ====
/-
  What the kernel reads at one grid point: the blocks of its six inputs, as entries of the arguments. The positions arrive
  padded to eight columns, and once more transposed.
-/
module

public import proofs.«01_k».proof.Proof.KernelTerm
public import proofs.«01_k».proof.Proof.Gen.KernelIdeal.Value
public import Idealize.ShloMosaic.Lib.StableHlo.ReadAt
public import Idealize.ShloMosaic.Lib.Pipeline.ValueKit
public import Idealize.ShloMosaic.Lib.Routing.OpsSet
public import Idealize.ShloMosaic.Lib.Routing.OpsPair

@[expose] public section

noncomputable section

namespace Cert.Proof

open Idealize.ShloMosaic Idealize.ShloMosaic.TcCoe Idealize.SL.Sem Cert.KernelIdeal Cert.KernelIdeal.Gen
open Idealize.ShloMosaic.Routing
variable (m : (ℓ : Loc nD τ sig) → Buf (Elt Ideal) ℓ)

/-- Three columns written over the first three of eight: those columns read what was written. -/
theorem scatter_rows {α : Type} (x : S4096x8.Idx → α) (idx : IVec S1 32) (hidx : ∀ k, (idx k).toInt = 0)
    (u : S4096x3.Idx → α)
    (r : Fin 4096) (j : Fin 3) :
    Host.scatter scatter_S4096x8_S1_S4096x3_01_n_1_0 (fun _ b => b) x idx u (ix2 r (⟨j.val, by omega⟩ : Fin 8)) = u
        (ix2 r j) := by
  have hs : ∀ k a, scatter_S4096x8_S1_S4096x3_01_n_1_0.start k idx a = 0 := fun k a => by
    unfold ScatterDims.start
    split
    · exact hidx _
    · rfl
  have h0 : ∀ k, scatter_S4096x8_S1_S4096x3_01_n_1_0.window k 0 = (k 0).val := fun _ => rfl
  have h1 : ∀ k, scatter_S4096x8_S1_S4096x3_01_n_1_0.window k 1 = (k 1).val := fun _ => rfl
  have hl : ∀ (k : S4096x3.Idx), scatter_S4096x8_S1_S4096x3_01_n_1_0.resultIdx? k idx
      = some (ix2 r (⟨j.val, by omega⟩ : Fin 8)) ↔ k = ix2 r j := fun k => by
    rw [resultIdx?_eq_some]
    constructor
    · intro h
      have a0 := h 0
      have a1 := h 1
      rw [hs, h0] at a0
      rw [hs, h1] at a1
      funext a
      apply Fin.ext
      match a with
      | ⟨0, _⟩ => exact Nat.cast_injective (R := Int) ((zero_add _).symm.trans a0)
      | ⟨1, _⟩ => exact Nat.cast_injective (R := Int) ((zero_add _).symm.trans a1)
    · rintro rfl a
      rw [hs, zero_add]
      match a with
      | ⟨0, _⟩ => exact congrArg Nat.cast (h0 _)
      | ⟨1, _⟩ => exact congrArg Nat.cast (h1 _)
  exact scatter_set_hit _ x idx u _ _ (fun k hk => congrArg u ((hl k).1 hk)) (ix2 r j) ((hl _).2 rfl)

/-- Three rows written over the first three of eight: those rows read what was written. -/
theorem scatter_cols {α : Type} (x : S8x4096.Idx → α) (idx : IVec S1 32) (hidx : ∀ k, (idx k).toInt = 0)
    (u : S3x4096.Idx → α)
    (j : Fin 3) (r : Fin 4096) :
    Host.scatter scatter_S8x4096_S1_S3x4096_01_n_0_0 (fun _ b => b) x idx u (ix2 (⟨j.val, by omega⟩ : Fin 8) r) = u
        (ix2 j r) := by
  have hs : ∀ k a, scatter_S8x4096_S1_S3x4096_01_n_0_0.start k idx a = 0 := fun k a => by
    unfold ScatterDims.start
    split
    · exact hidx _
    · rfl
  have h0 : ∀ k, scatter_S8x4096_S1_S3x4096_01_n_0_0.window k 0 = (k 0).val := fun _ => rfl
  have h1 : ∀ k, scatter_S8x4096_S1_S3x4096_01_n_0_0.window k 1 = (k 1).val := fun _ => rfl
  have hl : ∀ (k : S3x4096.Idx), scatter_S8x4096_S1_S3x4096_01_n_0_0.resultIdx? k idx
      = some (ix2 (⟨j.val, by omega⟩ : Fin 8) r) ↔ k = ix2 j r := fun k => by
    rw [resultIdx?_eq_some]
    constructor
    · intro h
      have a0 := h 0
      have a1 := h 1
      rw [hs, h0] at a0
      rw [hs, h1] at a1
      funext a
      apply Fin.ext
      match a with
      | ⟨0, _⟩ => exact Nat.cast_injective (R := Int) ((zero_add _).symm.trans a0)
      | ⟨1, _⟩ => exact Nat.cast_injective (R := Int) ((zero_add _).symm.trans a1)
    · rintro rfl a
      rw [hs, zero_add]
      match a with
      | ⟨0, _⟩ => exact congrArg Nat.cast (h0 _)
      | ⟨1, _⟩ => exact congrArg Nat.cast (h1 _)
  exact scatter_set_hit _ x idx u _ _ (fun k hk => congrArg u ((hl k).1 hk)) (ix2 j r) ((hl _).2 rfl)

/-- The atom of row `r` of block `t`. -/
def atom (t : Fin cfg0.N) (r : Fin 256) : Fin 4096 := ⟨t.val * 256 + r.val, by
  have h := t.isLt
  have e : cfg0.N = 16 := N_0
  omega⟩

/-- The first input's block at grid point `t`: the positions of the block's own atoms. -/
theorem iblk0 (c : Dev nD) (t : Fin cfg0.N) (r : Fin 256) (j : Fin 3) :
    (iblk m c 0 t : Vec Ideal S256x8 .f32) (ix2 r (⟨j.val, by omega⟩ : Fin 8))
      = (m (c, Proc.tc.devRef main_arg0) : Vec Ideal S4096x3 .f32) (ix2 (atom t r) j) := by
  have e : win0_0.index t = ![t.val, 0] := (by decide +kernel : ∀ t : Fin grid0.N, win0_0.index t = ![t.val, 0]) t
  have h : (iblk m c 0 t : Vec Ideal S256x8 .f32) (ix2 r (⟨j.val, by omega⟩ : Fin 8)) =
      (V m c main_v2 : Vec Ideal S4096x8 .f32)
      (ix2 (atom t r) (⟨j.val, by omega⟩ : Fin 8)) := by
    unfold iblk
    rw [View.read_apply]
    show V m c main_v2 _ = V m c main_v2 _
    congr 1
    funext a
    apply Fin.ext
    match a with
    | ⟨0, _⟩ =>
      show win0_0.index t 0 * 256 + 1 * r.val = t.val * 256 + r.val
      rw [e, one_mul]
      rfl
    | ⟨1, _⟩ =>
      show win0_0.index t 1 * 8 + 1 * j.val = j.val
      rw [e, one_mul]
      show 0 * 8 + _ = _
      rw [Nat.zero_mul, Nat.zero_add]
  rw [h]
  have : (V m c main_v2 : Vec Ideal S4096x8 .f32) = Host.scatter scatter_S4096x8_S1_S4096x3_01_n_1_0 (fun _ b => b)
      (broadcastInDim S4096x8 ![] bcast_S_S4096x8 (constant (F := Ideal) S_ FTy.f32 0#32))
      (broadcastInDim S1 ![] bcast_S_S1 (constantI S_ 32 0#32))
      (m (c, Proc.tc.devRef main_arg0) : Vec Ideal S4096x3 .f32) := by
    unfold V
    after_reads_at
  rw [this]
  exact scatter_rows _ _ (fun _ => rfl) _ (atom t r) j

/-- The second input's block: the positions of all atoms, transposed. -/
theorem iblk1 (c : Dev nD) (t : Fin cfg0.N) (j : Fin 3) (r : Fin 4096) :
    (iblk m c 1 t : Vec Ideal S8x4096 .f32) (ix2 (⟨j.val, by omega⟩ : Fin 8) r)
      = (m (c, Proc.tc.devRef main_arg0) : Vec Ideal S4096x3 .f32) (ix2 r j) := by
  have e : win0_1.index t = ![0, 0] := (by decide +kernel : ∀ t : Fin grid0.N, win0_1.index t = ![0, 0]) t
  have h : (iblk m c 1 t : Vec Ideal S8x4096 .f32) = (V m c main_v6 : Vec Ideal S8x4096 .f32) := by
    funext x
    unfold iblk
    rw [View.read_apply]
    show V m c main_v6 _ = V m c main_v6 _
    congr 1
    funext a
    apply Fin.ext
    match a with
    | ⟨0, _⟩ =>
      show win0_1.index t 0 * 8 + 1 * (x 0).val = (x 0).val
      rw [e, one_mul]
      show 0 * 8 + _ = _
      rw [Nat.zero_mul, Nat.zero_add]
    | ⟨1, _⟩ =>
      show win0_1.index t 1 * 4096 + 1 * (x 1).val = (x 1).val
      rw [e, one_mul]
      show 0 * 4096 + _ = _
      rw [Nat.zero_mul, Nat.zero_add]
  rw [h]
  have : (V m c main_v6 : Vec Ideal S8x4096 .f32) = Host.scatter scatter_S8x4096_S1_S3x4096_01_n_0_0 (fun _ b => b)
      (broadcastInDim S8x4096 ![] bcast_S_S8x4096 (constant (F := Ideal) S_ FTy.f32 0#32))
      (broadcastInDim S1 ![] bcast_S_S1 (constantI S_ 32 0#32))
      (transpose S3x4096 [1, 0] (m (c, Proc.tc.devRef main_arg0) : Vec Ideal S4096x3 .f32)
          transposes_S4096x3_S3x4096_1_0) := by
    unfold V
    after_reads_at
  rw [this]
  refine (scatter_cols _ _ (fun _ => rfl) _ j r).trans ?_
  pointwise

/-- The third input's block: the whole array of node attributes. -/
theorem iblk2 (c : Dev nD) (t : Fin cfg0.N) :
    (iblk m c 2 t : Vec Ideal S4096x16 .f32) = (m (c, Proc.tc.devRef main_arg1) : Vec Ideal S4096x16 .f32) := by
  have e : win0_2.index t = ![0, 0] := (by decide +kernel : ∀ t : Fin grid0.N, win0_2.index t = ![0, 0]) t
  have h : (iblk m c 2 t : Vec Ideal S4096x16 .f32) = (V m c main_arg1 : Vec Ideal S4096x16 .f32) := by
    funext x
    unfold iblk
    rw [View.read_apply]
    show V m c main_arg1 _ = V m c main_arg1 _
    congr 1
    funext a
    apply Fin.ext
    match a with
    | ⟨0, _⟩ =>
      show win0_2.index t 0 * 4096 + 1 * (x 0).val = (x 0).val
      rw [e, one_mul]
      show 0 * 4096 + _ = _
      rw [Nat.zero_mul, Nat.zero_add]
    | ⟨1, _⟩ =>
      show win0_2.index t 1 * 16 + 1 * (x 1).val = (x 1).val
      rw [e, one_mul]
      show 0 * 16 + _ = _
      rw [Nat.zero_mul, Nat.zero_add]
  rw [h]
  unfold V
  after_reads_at

/-- The fourth input's block: the whole embedding. -/
theorem iblk3 (c : Dev nD) (t : Fin cfg0.N) :
    (iblk m c 3 t : Vec Ideal S16x32 .f32) = (m (c, Proc.tc.devRef main_arg2) : Vec Ideal S16x32 .f32) := by
  have e : win0_3.index t = ![0, 0] := (by decide +kernel : ∀ t : Fin grid0.N, win0_3.index t = ![0, 0]) t
  have h : (iblk m c 3 t : Vec Ideal S16x32 .f32) = (V m c main_arg2 : Vec Ideal S16x32 .f32) := by
    funext x
    unfold iblk
    rw [View.read_apply]
    show V m c main_arg2 _ = V m c main_arg2 _
    congr 1
    funext a
    apply Fin.ext
    match a with
    | ⟨0, _⟩ =>
      show win0_3.index t 0 * 16 + 1 * (x 0).val = (x 0).val
      rw [e, one_mul]
      show 0 * 16 + _ = _
      rw [Nat.zero_mul, Nat.zero_add]
    | ⟨1, _⟩ =>
      show win0_3.index t 1 * 32 + 1 * (x 1).val = (x 1).val
      rw [e, one_mul]
      show 0 * 32 + _ = _
      rw [Nat.zero_mul, Nat.zero_add]
  rw [h]
  unfold V
  after_reads_at

/-- The fifth input's block: the whole array of message weights. -/
theorem iblk4 (c : Dev nD) (t : Fin cfg0.N) :
    (iblk m c 4 t : Vec Ideal S8x32 .f32) = (m (c, Proc.tc.devRef main_arg3) : Vec Ideal S8x32 .f32) := by
  have e : win0_4.index t = ![0, 0] := (by decide +kernel : ∀ t : Fin grid0.N, win0_4.index t = ![0, 0]) t
  have h : (iblk m c 4 t : Vec Ideal S8x32 .f32) = (V m c main_arg3 : Vec Ideal S8x32 .f32) := by
    funext x
    unfold iblk
    rw [View.read_apply]
    show V m c main_arg3 _ = V m c main_arg3 _
    congr 1
    funext a
    apply Fin.ext
    match a with
    | ⟨0, _⟩ =>
      show win0_4.index t 0 * 8 + 1 * (x 0).val = (x 0).val
      rw [e, one_mul]
      show 0 * 8 + _ = _
      rw [Nat.zero_mul, Nat.zero_add]
    | ⟨1, _⟩ =>
      show win0_4.index t 1 * 32 + 1 * (x 1).val = (x 1).val
      rw [e, one_mul]
      show 0 * 32 + _ = _
      rw [Nat.zero_mul, Nat.zero_add]
  rw [h]
  unfold V
  after_reads_at

/-- The sixth input's block: the output weights as one row. -/
theorem iblk5 (c : Dev nD) (t : Fin cfg0.N) (d : Fin 32) :
    (iblk m c 5 t : Vec Ideal S1x32 .f32) (ix2 0 d) = (m (c, Proc.tc.devRef main_arg4) : Vec Ideal S32 .f32) (ix1 d) := by
  have e : win0_5.index t = ![0, 0] := (by decide +kernel : ∀ t : Fin grid0.N, win0_5.index t = ![0, 0]) t
  have h : (iblk m c 5 t : Vec Ideal S1x32 .f32) = (V m c main_v7 : Vec Ideal S1x32 .f32) := by
    funext x
    unfold iblk
    rw [View.read_apply]
    show V m c main_v7 _ = V m c main_v7 _
    congr 1
    funext a
    apply Fin.ext
    match a with
    | ⟨0, _⟩ =>
      show win0_5.index t 0 * 1 + 1 * (x 0).val = (x 0).val
      rw [e, one_mul]
      show 0 * 1 + _ = _
      rw [Nat.zero_mul, Nat.zero_add]
    | ⟨1, _⟩ =>
      show win0_5.index t 1 * 32 + 1 * (x 1).val = (x 1).val
      rw [e, one_mul]
      show 0 * 32 + _ = _
      rw [Nat.zero_mul, Nat.zero_add]
  rw [h]
  unfold V
  after_reads_at

end Cert.Proof

end
-- ==== Proof.Data.lean ====
/-
  The numbers that the argument arrays hold.
-/
module

public import proofs.«01_k».proof.Proof.Energy
public import Idealize.ShloMosaic.Lib.Pointwise

@[expose] public section

noncomputable section

namespace Cert.Proof

open Idealize.ShloMosaic

/-- The numbers that a run's arguments hold: real ones, except that the readout weights may be infinite. -/
structure Data where
  p : Pos
  nodes : Fin 4096 → Fin 16 → ℝ
  embed : Fin 16 → Fin 32 → ℝ
  wmsg : Fin 8 → Fin 32 → ℝ
  wout : Fin 32 → EReal

/-- The node features. -/
def Data.feat (a : Data) (j : Fin 4096) (d : Fin 32) : ℝ := ∑ x, a.nodes j x * a.embed x d

/-- The five arrays hold these numbers. -/
structure Holds (a : Data) (x0 : FVec Ideal (⟨2, ![4096, 3]⟩ : Shape) .f32)
    (x1 : FVec Ideal (⟨2, ![4096, 16]⟩ : Shape) .f32) (x2 : FVec Ideal (⟨2, ![16, 32]⟩ : Shape) .f32)
    (x3 : FVec Ideal (⟨2, ![8, 32]⟩ : Shape) .f32) (x4 : FVec Ideal (⟨1, ![32]⟩ : Shape) .f32) : Prop where
  p : ∀ i c, x0 (ix2 i c) = (a.p i c : EReal)
  nodes : ∀ i c, x1 (ix2 i c) = (a.nodes i c : EReal)
  embed : ∀ i c, x2 (ix2 i c) = (a.embed i c : EReal)
  wmsg : ∀ i c, x3 (ix2 i c) = (a.wmsg i c : EReal)
  wout : ∀ i, x4 (ix1 i) = a.wout i

end Cert.Proof

end
-- ==== Proof.KernelRun.lean ====
/-
  The idealized kernel's result: the values of one block of rows, their sum along the grid and
  the single number that is written back.
-/
module

public import proofs.«01_k».proof.Proof.KernelInput
public import proofs.«01_k».proof.Proof.Data

@[expose] public section

noncomputable section

namespace Cert.Proof

open Idealize.ShloMosaic Idealize.ShloMosaic.TcCoe Idealize.SL.Sem Cert.KernelIdeal Cert.KernelIdeal.Gen

/-- The block's squared distances, an atom's own entry raised by ten thousand million. -/
theorem pay2_apply (p : Pos) (t : Fin cfg0.N) (x0 : Vec Ideal S256x8 .f32) (x1 : Vec Ideal S8x4096 .f32)
    (h0 : ∀ r (j : Fin 3), x0 (ix2 r (⟨j.val, by omega⟩ : Fin 8)) = (p (atom t r) j : EReal))
    (h1 : ∀ (j : Fin 3) k, x1 (ix2 (⟨j.val, by omega⟩ : Fin 8) k) = (p k j : EReal)) (r : Fin 256) (k : Fin 4096) :
    k0_pay2 (grid0.coords t) x0 x1 (ix2 r k) = (rowDist p (atom t r) k : EReal) := by
  have ht : (grid0.coords t 0).val = t.val := (by decide +kernel : ∀ t : Fin grid0.N, (grid0.coords t 0).val = t.val) t
  have a0 : x0 (ix2 r 0) = (p (atom t r) 0 : EReal) := h0 r 0
  have a1 : x0 (ix2 r 1) = (p (atom t r) 1 : EReal) := h0 r 1
  have a2 : x0 (ix2 r 2) = (p (atom t r) 2 : EReal) := h0 r 2
  have b0 : x1 (ix2 0 k) = (p k 0 : EReal) := h1 0 k
  have b1 : x1 (ix2 1 k) = (p k 1 : EReal) := h1 1 k
  have b2 : x1 (ix2 2 k) = (p k 2 : EReal) := h1 2 k
  pointwise [k0_pay2]
  rw [a0, a1, a2, b0, b1, b2, ofBits_ten, ofBits_1e10, ht]
  have hc : IntOp.cmpi .eq (IntOp.addi (BitVec.ofNat 32 r.val) (Scalar.muli (BitVec.ofNat 32 t.val) 256#32))
      (BitVec.ofNat 32 k.val)
      = BitVec.ofBool (decide (atom t r = k)) := by
    have e : IntOp.addi (BitVec.ofNat 32 r.val) (Scalar.muli (BitVec.ofNat 32 t.val) 256#32) = BitVec.ofNat 32
        (atom t r).val := by
      show BitVec.ofNat 32 r.val + BitVec.ofNat 32 t.val * BitVec.ofNat 32 256 = BitVec.ofNat 32 (t.val * 256 + r.val)
      rw [BitVec.ofNat_add, BitVec.ofNat_mul, add_comm]
    rw [e]
    show BitVec.ofBool (BitVec.ofNat 32 (atom t r).val == BitVec.ofNat 32 k.val) = _
    congr 1
    by_cases h : atom t r = k
    · rw [h, decide_eq_true rfl]; exact beq_self_eq_true _
    · rw [decide_eq_false h]
      refine beq_eq_false_iff_ne.2 fun q => h (Fin.ext ?_)
      have q' := congrArg BitVec.toNat q
      have l1 := (atom t r).isLt
      have l2 := k.isLt
      rw [BitVec.toNat_ofNat, BitVec.toNat_ofNat, Nat.mod_eq_of_lt (by omega), Nat.mod_eq_of_lt (by omega)] at q'
      exact q'
  rw [hc]
  unfold rowDist sqDist
  by_cases h : atom t r = k
  · rw [decide_eq_true h, if_pos h]
    show _ + _ = _
    norm_cast
  · rw [decide_eq_false h, if_neg h]
    show _ + _ = _
    norm_cast

/-- The kernel's sum over the atoms of block `t`. -/
def Data.block (a : Data) (t : Fin cfg0.N) : EReal :=
  ∑ r : Fin 256, ∑ d, ((a.feat (atom t r) d + kernelMsg a.p a.feat a.wmsg (atom t r) d : ℝ) : EReal) * a.wout d

/-- The node features that the first grid point leaves in the scratch. -/
theorem pay80_apply (a : Data) (x2 : Vec Ideal S4096x16 .f32) (x3 : Vec Ideal S16x32 .f32)
    (h2 : ∀ i c, x2 (ix2 i c) = (a.nodes i c : EReal)) (h3 : ∀ i c, x3 (ix2 i c) = (a.embed i c : EReal)) (j : Fin 4096)
        (d : Fin 32) :
    k0_pay80 x2 x3 (ix2 j d) = (a.feat j d : EReal) := by
  pointwise [k0_pay80]
  simp only [h2, h3]
  unfold Data.feat
  rw [← coe_sum]
  exact Finset.sum_congr rfl fun _ _ => (EReal.coe_mul _ _).symm

/-- What one grid point adds to the output: its block's energy. -/
theorem outTerm_apply (a : Data) (t : Fin cfg0.N) (x0 : Vec Ideal S256x8 .f32) (x1 : Vec Ideal S8x4096 .f32)
    (x2 : Vec Ideal S4096x16 .f32)
    (x3 : Vec Ideal S16x32 .f32) (x4 : Vec Ideal S8x32 .f32) (x5 : Vec Ideal S1x32 .f32) (xo : Vec Ideal S1x1 .f32)
        (xs : Vec Ideal S4096x32 .f32)
    (h0 : ∀ r (j : Fin 3), x0 (ix2 r (⟨j.val, by omega⟩ : Fin 8)) = (a.p (atom t r) j : EReal))
    (h1 : ∀ (j : Fin 3) k, x1 (ix2 (⟨j.val, by omega⟩ : Fin 8) k) = (a.p k j : EReal))
    (h4 : ∀ b d, x4 (ix2 b d) = (a.wmsg b d : EReal)) (h5 : ∀ d, x5 (ix2 0 d) = a.wout d)
    (hs : ∀ j d, xs (ix2 j d) = (a.feat j d : EReal)) (e : EReal) (ho : xo (ix2 0 0) = e) :
    outTerm (grid0.coords t) x0 x1 x2 x3 x4 x5 xo xs (ix2 0 0) = e + a.block t * (unitE : EReal) := by
  have hown : ∀ r d, ownRows (grid0.coords t) xs (ix2 r d) = (a.feat (atom t r) d : EReal) := fun r d => by
    have ht : k0_off1 (grid0.coords t) 0 = t.val * 256 :=
      (by decide +kernel : ∀ t : Fin grid0.N, k0_off1 (grid0.coords t) 0 = t.val * 256) t
    unfold ownRows
    rw [View.ld_unit_apply_of xs _ _ _ _ (ix2 (atom t r) d), hs]
    intro b
    match b with
    | ⟨0, _⟩ => exact (congrArg (· + r.val) ht).symm
    | ⟨1, _⟩ => exact (zero_add _).symm
  have hb := blockSum_apply (D := fun r => rowDist a.p (atom t r)) (pay2_apply a.p t x0 x1 h0 h1)
      (fun r j => rowDist_nonneg _ _ _)
    (k0_pay6 (grid0.coords t) x0 x1) rfl x4 a.wmsg h4 xs a.feat hs _ _ hown x5 a.wout h5
  unfold outTerm
  pointwise [k0_pay1, k0_pay105, k0_pay106]
  rw [hb, ho, ofBits_unitE]
  rfl

variable (m : (ℓ : Loc nD τ sig) → Buf (Elt Ideal) ℓ)

/-- After each grid point the output holds the energies of the blocks so far, and the scratch the node features. -/
theorem outs_apply (c : Dev nD) (a : Data)
    (ha : Holds a (m (c, Proc.tc.devRef main_arg0)) (m (c, Proc.tc.devRef main_arg1)) (m (c, Proc.tc.devRef main_arg2))
      (m (c, Proc.tc.devRef main_arg3)) (m (c, Proc.tc.devRef main_arg4))) (n : ℕ) (hn : n < cfg0.N) :
    (outsAt0 m c n hn).1 (ix2 0 0) = ∑ t : Fin (n + 1), a.block ⟨t.val, lt_of_le_of_lt (Nat.le_of_lt_succ t.isLt) hn⟩
        * (unitE : EReal)
      ∧ ∀ j d, (outsAt0 m c n hn).2 (ix2 j d) = (a.feat j d : EReal) := by
  have h0 := fun t r j => (iblk0 m c t r j).trans (ha.p (atom t r) j)
  have h1 := fun t j k => (iblk1 m c t j k).trans (ha.p k j)
  have h2 := fun t i k => (congrFun (iblk2 m c t) (ix2 i k)).trans (ha.nodes i k)
  have h3 := fun t i k => (congrFun (iblk3 m c t) (ix2 i k)).trans (ha.embed i k)
  have h4 := fun t i k => (congrFun (iblk4 m c t) (ix2 i k)).trans (ha.wmsg i k)
  have h5 := fun t d => (iblk5 m c t d).trans (ha.wout d)
  have hf := fun t => pay80_apply a _ _ (h2 t) (h3 t)
  induction n with
  | zero =>
    rw [outsAt0_A m c ⟨0, hn⟩ (Nat.zero_mod _)]
    dsimp only
    rw [out_A, sout_A]
    refine ⟨?_, hf _⟩
    rw [outTerm_apply a ⟨0, hn⟩ _ _ _ _ _ _ _ _ (h0 _) (h1 _) (h4 _) (h5 _) (hf _) 0 ?_]
    · simp
    · pointwise [k0_pay81]
  | succ n ih =>
    have hN : cfg0.N = 16 := N_0
    rw [outsAt0_B m c ⟨n + 1, hn⟩ (by show ¬(n + 1) % 16 = 0; omega)]
    dsimp only
    rw [out_B, sout_B]
    obtain ⟨i1, i2⟩ := ih (by omega)
    refine ⟨?_, i2⟩
    refine (outTerm_apply a ⟨n + 1, hn⟩ _ _ _ _ _ _ _ _ (h0 _) (h1 _) (h4 _) (h5 _) i2 _ i1).trans ?_
    rw [Fin.sum_univ_castSucc (n := n + 1)]
    rfl

/-- The kernel's energy. -/
def Data.kernelEnergy (a : Data) : EReal :=
  (∑ i, ∑ d, ((a.feat i d + kernelMsg a.p a.feat a.wmsg i d : ℝ) : EReal) * a.wout d) * (unitE : EReal)

/-- The unit's factor goes out of a sum of extended reals, for it is real and not negative. -/
theorem sum_unitE {n : ℕ} (f : Fin n → EReal) : ∑ t, f t * (unitE : EReal) = (∑ t, f t) * (unitE : EReal) := by
  induction n with
  | zero => simp
  | succ n ih =>
    rw [Fin.sum_univ_castSucc, Fin.sum_univ_castSucc, ih,
      EReal.right_distrib_of_nonneg_of_ne_top (EReal.coe_nonneg.2 unitE_nonneg) (EReal.coe_ne_top _)]

/-- Sixteen blocks of 256 rows are all the rows. -/
theorem sum_blocks (f : Fin 4096 → EReal) : (∑ t : Fin 16, ∑ r : Fin 256, f ⟨t.val * 256 + r.val, by omega⟩) = ∑ i, f i := by
  rw [← Finset.sum_product', Finset.univ_product_univ]
  refine Fintype.sum_equiv (finProdFinEquiv (m := 16) (n := 256)) _ _ fun x => congrArg f (Fin.ext ?_)
  show x.1.val * 256 + x.2.val = x.2.val + 256 * x.1.val
  omega

/-- The idealized kernel's result. -/
theorem kernel_result (c : Dev nD) (a : Data)
    (ha : Holds a (m (c, Proc.tc.devRef main_arg0)) (m (c, Proc.tc.devRef main_arg1)) (m (c, Proc.tc.devRef main_arg2))
      (m (c, Proc.tc.devRef main_arg3)) (m (c, Proc.tc.devRef main_arg4))) :
    (Cert.KernelIdeal.Value.G6 m c : Vec Ideal S1x1 .f32) (ix2 0 0) = a.kernelEnergy := by
  have hN : cfg0.N = 16 := N_0
  rw [Cert.KernelIdeal.Value.G6_last, ← Cert.KernelIdeal.Value.outsAt0_sweep m c 15 (by omega),
      (outs_apply m c a ha 15 _).1]
  unfold Data.kernelEnergy
  rw [sum_unitE]
  congr 1
  exact sum_blocks fun i => ∑ d, ((a.feat i d + kernelMsg a.p a.feat a.wmsg i d : ℝ) : EReal) * a.wout d

end Cert.Proof

end
-- ==== Proof.Nearest.lean ====
/-
  The order of a row of distances, nearest first, and what `top_k` returns for it.
-/
module

public import proofs.«01_k».proof.Proof.Energy
public import Idealize.ShloMosaic.Lib.SortFacts
public import Idealize.ShloMosaic.Lib.Pointwise

@[expose] public section

noncomputable section

namespace Cert.Proof

open Idealize.ShloMosaic

/-- The atoms in the order of a row of distances, nearest first, equal distances in the atoms' order. -/
def order {N : ℕ} (D : Fin N → ℝ) : Fin N → Fin N := sortedFrom fun k k' => decide (D k < D k')

/-- Every atom has exactly one place in the order. -/
theorem order_bijective {N : ℕ} (D : Fin N → ℝ) : Function.Bijective (order D) :=
  ⟨sortedFrom_injective _, sortedFrom_surjective _⟩

/-- Distances do not fall along the order. -/
theorem order_monotone {N : ℕ} (D : Fin N → ℝ) : Monotone (D ∘ order D) := by
  intro i j hij
  rcases hij.lt_or_eq with h | rfl
  · have q := sortedFrom_noInversion (fun k k' => decide (D k < D k')) (fun k k' => decide (D k < D k'))
      (fun a b h => decide_eq_false (not_lt.2 (of_decide_eq_true h).le)) (fun _ _ h => h)
      (fun a b c h h' => decide_eq_false (not_lt.2 ((not_lt.1 (of_decide_eq_false h')).trans
          (not_lt.1 (of_decide_eq_false h))))) i j h
    exact not_lt.1 (of_decide_eq_false q)
  · exact le_refl _

/-- `top_k` of negated distances: its values are the negated distances of the nearest atoms, in order, and its indices
    those atoms' numbers. -/
theorem topK_apply {M N n : ℕ} (hn : n ≤ N) (D : Fin M → Fin N → ℝ) (X : FVec Ideal (⟨2, ![M, N]⟩ : Shape) .f32)
    (hX : ∀ i k, X (ix2 i k) = ((-D i k : ℝ) : EReal)) (h : (⟨2, ![M, N]⟩ : Shape).Slices (fun _ => 0) ⟨2, ![M, n]⟩)
        (i : Fin M) (l : Fin n) :
    (Host.topK ⟨2, ![M, n]⟩ 1 (FloatOps.cmpfTotal (F := Ideal) .gt) X h).1 (ix2 i l) =
        ((-D i (order (D i) (l.castLE hn)) : ℝ) : EReal)
    ∧ (Host.topK ⟨2, ![M, n]⟩ 1 (FloatOps.cmpfTotal (F := Ideal) .gt) X h).2 (ix2 i l) = BitVec.ofNat 32
        (order (D i) (l.castLE hn)).val := by
  have ea : ∀ (k : Fin N), (ix2 i (l.castLE hn) : (⟨2, ![M, N]⟩ : Shape).Idx).along (s := (⟨2, ![M, N]⟩ : Shape)) 1 k
      = ix2 i k := by
    intro k
    funext a
    match a with
    | ⟨0, _⟩ => rfl
    | ⟨1, _⟩ => rfl
  have hs : (fun k k' : Fin N => FloatOps.cmpfTotal (F := Ideal) .gt
        (X ((ix2 i (l.castLE hn) : (⟨2, ![M, N]⟩ : Shape).Idx).along (s := (⟨2, ![M, N]⟩ : Shape)) 1 k))
        (X ((ix2 i (l.castLE hn) : (⟨2, ![M, N]⟩ : Shape).Idx).along (s := (⟨2, ![M, N]⟩ : Shape)) 1 k')) == 1#1)
      = fun k k' : Fin N => decide (D i k < D i k') := by
    funext k k'
    rw [ea, ea, hX, hX]
    have : FloatOps.cmpfTotal (F := Ideal) (φ := .f32) .gt ((-D i k : ℝ) : EReal) ((-D i k' : ℝ) : EReal)
        = BitVec.ofBool (decide (((-D i k' : ℝ) : EReal) < ((-D i k : ℝ) : EReal))) := rfl
    rw [this]
    by_cases q : D i k < D i k'
    · rw [decide_eq_true q, decide_eq_true (EReal.coe_lt_coe_iff.2 (neg_lt_neg q))]; rfl
    · rw [decide_eq_false q, decide_eq_false fun w => q (neg_lt_neg_iff.1 (EReal.coe_lt_coe_iff.1 w))]; rfl
  have ec : (fun a => ⟨0 + (ix2 i l (a.cast h.1.symm)).val, Nat.lt_of_lt_of_le (Nat.add_lt_add_left (ix2 i l _).isLt _)
      (h.2 a)⟩
      : (⟨2, ![M, N]⟩ : Shape).Idx) = ix2 i (l.castLE hn) := by
    funext a
    apply Fin.ext
    match a with
    | ⟨0, _⟩ => exact zero_add _
    | ⟨1, _⟩ => exact zero_add _
  unfold Host.topK extractStridedSlice
  dsimp only
  rw [ec]
  unfold Host.sort2
  simp only [dif_pos (Nat.one_lt_two : 1 < (⟨2, ![M, N]⟩ : Shape).rank)]
  constructor
  · rw [← hX i (order (D i) (l.castLE hn))]
    refine congrArg X ?_
    refine Eq.trans ?_ (ea _)
    exact congrArg (fun R : Fin N → Fin N → Bool => (ix2 i (l.castLE hn) : (⟨2, ![M, N]⟩ : Shape).Idx).along
      (s := (⟨2, ![M, N]⟩ : Shape)) 1 (sortedFrom R (l.castLE hn))) hs
  · exact congrArg (fun R : Fin N → Fin N → Bool => BitVec.ofNat 32 (sortedFrom R (l.castLE hn)).val) hs

/-- The comparison of two atoms' numbers as words. -/
theorem same_atom (i j : Fin 4096) : IntOp.cmpi .eq (IntOp.addi (BitVec.ofNat 32 i.val) 0#32) (BitVec.ofNat 32 j.val) =
    BitVec.ofBool (decide (i = j)) := by
  have e : IntOp.addi (BitVec.ofNat 32 i.val) 0#32 = BitVec.ofNat 32 i.val := BitVec.add_zero _
  rw [e]
  show BitVec.ofBool (BitVec.ofNat 32 i.val == BitVec.ofNat 32 j.val) = _
  congr 1
  by_cases h : i = j
  · rw [h, decide_eq_true rfl]; exact beq_self_eq_true _
  · rw [decide_eq_false h]
    refine beq_eq_false_iff_ne.2 fun q => h (Fin.ext ?_)
    have q' := congrArg BitVec.toNat q
    have l1 := i.isLt
    have l2 := j.isLt
    rw [BitVec.toNat_ofNat, BitVec.toNat_ofNat, Nat.mod_eq_of_lt (by omega), Nat.mod_eq_of_lt (by omega)] at q'
    exact q'

/-- A truth value as a number. -/
theorem uitofp_ofBool (b : Bool) : FloatOps.uitofp (F := Ideal) .f32 (BitVec.ofBool b) =
    ((if b then 1 else 0 : ℝ) : EReal) := by
  cases b
  · exact congrArg (fun r : ℝ => (r : EReal)) Nat.cast_zero
  · exact congrArg (fun r : ℝ => (r : EReal)) Nat.cast_one

/-- The negated distance of a row, as the host computes it. -/
theorem dist_value (f : Fin 4096 → Fin 3 → EReal) (p : Pos) (h : ∀ i c, f i c = (p i c : EReal)) (i j : Fin 4096) :
    -(∑ x, (f i x * Ideal.ofBits FTy.f32 1092616192#32 - f j x * Ideal.ofBits FTy.f32 1092616192#32) *
            (f i x * Ideal.ofBits FTy.f32 1092616192#32 - f j x * Ideal.ofBits FTy.f32 1092616192#32) +
        FloatOps.uitofp (F := Ideal) FTy.f32
            (IntOp.cmpi CmpIPredicate.eq (IntOp.addi (BitVec.ofNat 32 i.val) 0#32) (BitVec.ofNat 32 j.val)) *
          Ideal.ofBits FTy.f32 1343554297#32) = ((-rowDist p i j : ℝ) : EReal) := by
  rw [same_atom, uitofp_ofBool, ofBits_1e10, Fin.sum_univ_three, ofBits_ten]
  simp only [h]
  unfold rowDist sqDist
  by_cases q : i = j
  · rw [decide_eq_true q, if_pos q, if_pos rfl]
    norm_cast
  · rw [decide_eq_false q, if_neg q, if_neg Bool.false_ne_true, EReal.coe_zero, zero_mul, add_zero]
    norm_cast

end Cert.Proof

end
-- ==== Proof.Reference.lean ====
/-
  The reference's result, an energy over the reals: its term in stages, each stage read at real arguments.
-/
module

public import proofs.«01_k».proof.Proof.Nearest
public import proofs.«01_k».proof.Proof.KernelPair
public import proofs.«01_k».proof.Proof.Data
public import proofs.«01_k».proof.Proof.Gen.ReferenceIdeal.Run
public import Idealize.ShloMosaic.Lib.Pointwise

@[expose] public section

noncomputable section

namespace Cert.Proof

open Idealize.ShloMosaic Cert.ReferenceIdeal Cert.ReferenceIdeal.Facts₀

/-- The dimension numbers of a gather of whole rows, one row number per pair. -/
abbrev rowDims (N C R S : ℕ) (wf : GatherDims.WF ⟨2, ![N, C]⟩ ⟨3, ![R, S, 1]⟩
    ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- Such a gather reads the operand at that row. -/
theorem gather_rows {N C R S : ℕ} {α : Type}
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ 32) (i : Fin R) (k : Fin S) (c : Fin C)
    (n : Fin N) (hn : min (idx (ix3 i k 0)).toInt.toNat (N - 1) = n.val) :
    Host.gather (rowDims N C R S wf) x idx (ix3 i k c) = x (ix2 n c) := by
  unfold Host.gather
  congr 1
  funext a
  refine Fin.ext ?_
  show (rowDims N C R S wf).start (ix3 i k c) idx a + (rowDims N C R S wf).batchCoord (ix3 i k c) a
    + (rowDims N C R S wf).offCoord (ix3 i k c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R S wf).startIndexMap from List.mem_singleton.mpr rfl)]
    have hsi : (rowDims N C R S wf).siIdx (ix3 i k c) ⟨List.idxOf (0 : Fin 2) (rowDims N C R S wf).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi]
    exact hn
  · unfold GatherDims.start GatherDims.offCoord
    rw [dif_neg (show (1 : Fin 2) ∉ (rowDims N C R S wf).startIndexMap from fun q => one_ne_zero
        (List.mem_singleton.1 q : (1 : Fin 2) = 0)),
      dif_pos (show (1 : Fin 2) ∈ (rowDims N C R S wf).sKept from (GatherDims.mem_sKept _ _).2
          ⟨fun q => one_ne_zero (List.mem_singleton.1 q : (1 : Fin 2) = 0), List.not_mem_nil⟩)]
    simp only [Nat.zero_add]
    rfl

/-- A row number below 4096 is not clamped. -/
theorem row_number (n : Fin 4096) : min (BitVec.ofNat 32 n.val).toInt.toNat (4096 - 1) = n.val := by
  have := n.isLt
  rw [BitVec.toInt_eq_toNat_of_lt (by rw [BitVec.toNat_ofNat]; omega), BitVec.toNat_ofNat, Int.toNat_natCast]
  omega

/-- The positions in the unit of the cutoff. -/
def refScaled (x0 : FVec Ideal S4096x3 .f32) : FVec Ideal S4096x3 .f32 :=
  mulf x0 (broadcastInDim S4096x3 ![] bcast_S_S4096x3 (constant (F := Ideal) S_ .f32 0x41200000#32))

/-- The negated squared distances, as the reference computes them. -/
def refDist (x0 : FVec Ideal S4096x3 .f32) : FVec Ideal S4096x4096 .f32 :=
  let v6 := subf (broadcastInDim S4096x4096x3 ![0, 1, 2] bcast_S4096x1x3_S4096x4096x3_0_1_2
      (broadcastInDim S4096x1x3 ![0, 2] bcast_S4096x3_S4096x1x3_0_2 (refScaled x0)))
    (broadcastInDim S4096x4096x3 ![0, 1, 2] bcast_S1x4096x3_S4096x4096x3_0_1_2
        (broadcastInDim S1x4096x3 ![1, 2] bcast_S4096x3_S1x4096x3_1_2 (refScaled x0)))
  let v8 := Host.reduceAdd (mulf v6 v6) (constant (F := Ideal) S_ .f32 0x00000000#32)
      reducesTo_S4096x4096x3_S4096x4096_d2 h_S_
  let v13 := cmpi .eq (addi (iotaInDim S4096x4096 32 0) (broadcastInDim S4096x4096 ![] bcast_S_S4096x4096
      (constantI S_ 32 0#32))) (iotaInDim S4096x4096 32 1)
  Host.negf (addf v8 (mulf (uitofp .f32 v13) (broadcastInDim S4096x4096 ![] bcast_S_S4096x4096
      (constant (F := Ideal) S_ .f32 0x501502F9#32))))

/-- The numbers of the 32 nearest atoms, as the reference computes them. -/
def refNear (x0 : FVec Ideal S4096x3 .f32) : IVec S4096x32 32 :=
  (Host.topK S4096x32 1 (FloatOps.cmpfTotal (F := Ideal) .gt) (refDist x0) sliceFits_S4096x4096_S4096x32).2

/-- Those numbers as row numbers. -/
def refRows (x : IVec S4096x32 32) : IVec S4096x32x1 32 :=
  broadcastInDim S4096x32x1 ![0, 1] bcast_S4096x32_S4096x32x1_0_1
    (select (cmpi .slt x (broadcastInDim S4096x32 ![] bcast_S_S4096x32 (constantI S_ 32 0#32)))
      (addi x (broadcastInDim S4096x32 ![] bcast_S_S4096x32 (constantI S_ 32 4096#32))) x)

/-- The distances of pairs. -/
def refRadius (x0 : FVec Ideal S4096x3 .f32) (rows : IVec S4096x32x1 32) : FVec Ideal S4096x32 .f32 :=
  let v29 := subf (Host.gather gather_S4096x3_S4096x32x1_S4096x32x3_2_0_n_n_0_2_13 (refScaled x0) rows)
    (broadcastInDim S4096x32x3 ![0, 1, 2] bcast_S4096x1x3_S4096x32x3_0_1_2
        (broadcastInDim S4096x1x3 ![0, 2] bcast_S4096x3_S4096x1x3_0_2 (refScaled x0)))
  Host.sqrt (addf (Host.reduceAdd (mulf v29 v29) (constant (F := Ideal) S_ .f32 0x00000000#32)
      reducesTo_S4096x32x3_S4096x32_d2 h_S_)
    (broadcastInDim S4096x32 ![] bcast_S_S4096x32 (constant (F := Ideal) S_ .f32 0x2B8CBCCC#32)))

/-- The reference's π. -/
def refPi : FVec Ideal S_ .f32 := Host.acos (constant (F := Ideal) S_ .f32 0xBF800000#32)

/-- The radial basis of pairs at distances `r`. -/
def refBasis (r : FVec Ideal S4096x32 .f32) : FVec Ideal S4096x32x8 .f32 :=
  let spread := fun y : FVec Ideal S4096x32 .f32 => broadcastInDim S4096x32x8 ![0, 1, 2] bcast_S4096x32x1_S4096x32x8_0_1_2
    (broadcastInDim S4096x32x1 ![0, 1] bcast_S4096x32_S4096x32x1_0_1 y)
  let flat := fun w : BitVec 32 => broadcastInDim S4096x32 ![] bcast_S_S4096x32 (constant (F := Ideal) S_ .f32 w)
  let v43 := mulf (broadcastInDim S1x1x8 ![2] bcast_S8_S1x1x8_2
      (addf (broadcastInDim S8 ![] bcast_S_S8 (constant (F := Ideal) S_ .f32 0x3F800000#32))
      (sitofp .f32 (iotaInDim S8 32 0))))
    (broadcastInDim S1x1x8 ![] bcast_S_S1x1x8 refPi)
  let v49 := Host.divf (mulf (broadcastInDim S4096x32x8 ![0, 1, 2] bcast_S1x1x8_S4096x32x8_0_1_2 v43) (spread r))
    (broadcastInDim S4096x32x8 ![] bcast_S_S4096x32x8 (constant (F := Ideal) S_ .f32 0x40A00000#32))
  let v59 := Host.divf (mulf (broadcastInDim S4096x32 ![] bcast_S_S4096x32 refPi) (minimumf r (flat 0x40A00000#32)))
      (flat 0x40A00000#32)
  let v65 := mulf (uitofp .f32 (cmpf .olt r (flat 0x40A00000#32)))
      (mulf (flat 0x3F000000#32) (addf (Host.cos v59) (flat 0x3F800000#32)))
  mulf (Host.divf (Host.sin v49) (spread r)) (spread v65)

/-- The node features. -/
def refFeat (x1 : FVec Ideal S4096x16 .f32) (x2 : FVec Ideal S16x32 .f32) : FVec Ideal S4096x32 .f32 :=
  Host.dotGeneral dot_S4096x16_S16x32_S4096x32_1_0_0_1_n_n none x1 x2

/-- The updated features. -/
def refUpdate (feat : FVec Ideal S4096x32 .f32) (rows : IVec S4096x32x1 32) (b : FVec Ideal S4096x32x8 .f32)
    (x3 : FVec Ideal S8x32 .f32) : FVec Ideal S4096x32 .f32 :=
  addf feat (Host.reduceAdd (mulf (Host.dotGeneral dot_S4096x32x8_S8x32_S4096x32x32_2_0_01_1_n_n none b x3)
      (Host.gather gather_S4096x32_S4096x32x1_S4096x32x32_2_0_n_n_0_2_132 feat rows))
    (constant (F := Ideal) S_ .f32 0x00000000#32) reducesTo_S4096x32x32_S4096x32_d1 h_S_)

/-- The energy from the updated features. -/
def refEnergy (u : FVec Ideal S4096x32 .f32) (x4 : FVec Ideal S32 .f32) : FVec Ideal S1x1 .f32 :=
  shapeCast S1x1 (mulf (Host.reduceAdd (Host.dotGeneral dot_S4096x32_S32_S4096_1_0_0_n_n_n none u x4)
    (constant (F := Ideal) S_ .f32 0x00000000#32) reducesTo_S4096_S_d0 h_S_)
        (constant (F := Ideal) S_ .f32 0x42C0F87D#32)) shapeCasts_S_S1x1

/-- The reference's result as a term of its arguments. -/
def refOut (x0 : FVec Ideal S4096x3 .f32) (x1 : FVec Ideal S4096x16 .f32) (x2 : FVec Ideal S16x32 .f32)
    (x3 : FVec Ideal S8x32 .f32) (x4 : FVec Ideal S32 .f32) : FVec Ideal S1x1 .f32 :=
  refEnergy (refUpdate (refFeat x1 x2) (refRows (refNear x0)) (refBasis (refRadius x0 (refRows (refNear x0)))) x3) x4

/-- The run's result is that term. -/
theorem res_eq (m : (ℓ : Loc nD τ sig) → Buf (Elt Ideal) ℓ) (c : Dev nD) :
    (Cert.ReferenceIdeal.Value.res_main_v84 m c : FVec Ideal S1x1 .f32)
      = refOut (m ((c.tc : Thread nD τ).loc main_arg0)) (m ((c.tc : Thread nD τ).loc main_arg1))
          (m ((c.tc : Thread nD τ).loc main_arg2))
          (m ((c.tc : Thread nD τ).loc main_arg3)) (m ((c.tc : Thread nD τ).loc main_arg4)) := by
  unfold Cert.ReferenceIdeal.Value.res_main_v84
  rfl

/-- The negated distances read at an entry. -/
theorem refDist_apply (x0 : FVec Ideal S4096x3 .f32) (p : Pos) (h : ∀ i c, x0 (ix2 i c) = (p i c : EReal))
    (i j : Fin 4096) :
    refDist x0 (ix2 i j) = ((-rowDist p i j : ℝ) : EReal) := by
  pointwise [refDist, refScaled]
  exact dist_value (fun i c => x0 (ix2 i c)) p h i j

/-- The nearest atoms' numbers read at an entry. -/
theorem refNear_apply (x0 : FVec Ideal S4096x3 .f32) (p : Pos) (h : ∀ i c, x0 (ix2 i c) = (p i c : EReal)) (i : Fin 4096)
    (k : Fin 32) :
    refNear x0 (ix2 i k) = BitVec.ofNat 32 (order (rowDist p i) (k.castLE (by omega))).val :=
  (topK_apply (by omega) (rowDist p) (refDist x0) (refDist_apply x0 p h) _ i k).2

/-- An atom's number as a word is not negative. -/
theorem not_negative (n : Fin 4096) : IntOp.cmpi .slt (BitVec.ofNat 32 n.val) 0#32 = 0#1 := by
  have := n.isLt
  show BitVec.ofBool (BitVec.slt (BitVec.ofNat 32 n.val) 0#32) = 0#1
  rw [BitVec.slt_eq_decide, BitVec.toInt_eq_toNat_of_lt (by rw [BitVec.toNat_ofNat]; omega)]
  rw [decide_eq_false (by rw [show (0#32).toInt = 0 from rfl]; omega)]
  rfl

/-- A number that is not negative is its own row number. -/
theorem refRows_apply (x : IVec S4096x32 32) (i : Fin 4096) (k : Fin 32) (n : Fin 4096)
    (h : x (ix2 i k) = BitVec.ofNat 32 n.val) :
    refRows x (ix3 i k 0) = BitVec.ofNat 32 n.val := by
  pointwise [refRows]
  rw [h, not_negative]
  rfl

/-- The distance of a pair read at an entry. -/
theorem refRadius_apply (x0 : FVec Ideal S4096x3 .f32) (p : Pos) (h : ∀ i c, x0 (ix2 i c) = (p i c : EReal))
    (rows : IVec S4096x32x1 32) (i : Fin 4096) (k : Fin 32) (n : Fin 4096)
        (hr : rows (ix3 i k 0) = BitVec.ofNat 32 n.val) :
    refRadius x0 rows (ix2 i k) = (√(sqDist p i n + eps) : EReal) := by
  have hs : ∀ i c, refScaled x0 (ix2 i c) = ((p i c * 10 : ℝ) : EReal) := by
    intro i c
    pointwise [refScaled]
    rw [h, ofBits_ten, ← EReal.coe_mul]
  have hg : ∀ c, Host.gather gather_S4096x3_S4096x32x1_S4096x32x3_2_0_n_n_0_2_13 (refScaled x0) rows (ix3 i k c)
      = ((p n c * 10 : ℝ) : EReal) := fun c =>
    (gather_rows gather_S4096x3_S4096x32x1_S4096x32x3_2_0_n_n_0_2_13_wf (refScaled x0) rows i k c n
      (by rw [hr]; exact row_number n)).trans (hs n c)
  have hd : sqDist p i n = (p n 0 * 10 - p i 0 * 10) * (p n 0 * 10 - p i 0 * 10)
      + (p n 1 * 10 - p i 1 * 10) * (p n 1 * 10 - p i 1 * 10) + (p n 2 * 10 - p i 2 * 10) *
          (p n 2 * 10 - p i 2 * 10) := by
    unfold sqDist
    ring
  pointwise [refRadius]
  rw [Fin.sum_univ_three, hg, hg, hg, hs, hs, hs, ofBits_eps]
  simp only [← EReal.coe_sub, ← EReal.coe_mul, ← EReal.coe_add]
  rw [← hd, Ideal.sqrt_coe, if_neg (not_lt.2 (by have := eps_pos; have := sqDist_nonneg p i n; positivity))]

/-- The node features read at an entry. -/
theorem refFeat_apply (a : Data) (x1 : FVec Ideal S4096x16 .f32) (x2 : FVec Ideal S16x32 .f32)
    (h1 : ∀ i c, x1 (ix2 i c) = (a.nodes i c : EReal)) (h2 : ∀ i c, x2 (ix2 i c) = (a.embed i c : EReal)) (i : Fin 4096)
        (d : Fin 32) :
    refFeat x1 x2 (ix2 i d) = (a.feat i d : EReal) := by
  pointwise [refFeat]
  simp only [h1, h2, ← EReal.coe_mul]
  exact coe_sum _ _

/-- The radial basis read at an entry. -/
theorem refBasis_apply (r : FVec Ideal S4096x32 .f32) (i : Fin 4096) (k : Fin 32) (b : Fin 8) (z : ℝ) (hz : 0 < z)
    (h : r (ix2 i k) = (√z : EReal)) : refBasis r (ix3 i k b) = (refWeight z b : EReal) := by
  have hb : FloatOps.sitofp (F := Ideal) FTy.f32 (BitVec.ofNat 32 b.val) = (((b.val : ℕ) : ℝ) : EReal) := by
    have := b.isLt
    show (((BitVec.ofNat 32 b.val).toInt : ℝ) : EReal) = _
    rw [BitVec.toInt_eq_toNat_of_lt (by rw [BitVec.toNat_ofNat]; omega), BitVec.toNat_ofNat, Nat.mod_eq_of_lt (by omega),
      Int.cast_natCast]
  have hpi : Ideal.acos (Ideal.ofBits FTy.f32 3212836864#32) = (Real.pi : EReal) := by
    rw [ofBits_neg_one, Ideal.acos_coe, if_pos (by norm_num), Real.arccos_neg_one]
  have hpos := Real.sqrt_pos.2 hz
  pointwise [refBasis, refPi]
  rw [h, hpi, hb, ofBits_five, ofBits_half, ← EReal.coe_one, coe_min]
  simp only [← EReal.coe_mul, ← EReal.coe_add]
  rw [Ideal.div_coe hpos.ne', Ideal.div_coe (show (5 : ℝ) ≠ 0 by norm_num), Ideal.div_coe (show (5 : ℝ) ≠ 0 by norm_num)]
  simp only [← EReal.coe_mul]
  rw [Ideal.sin_coe, Ideal.cos_coe, uitofp_ofBool]
  simp only [← EReal.coe_mul, ← EReal.coe_add]
  congr 1
  unfold refWeight
  by_cases q : √z < 5
  · rw [if_pos q, decide_eq_true (EReal.coe_lt_coe_iff.2 q), if_pos rfl]
  · rw [if_neg q, decide_eq_false fun w => q (EReal.coe_lt_coe_iff.1 w), if_neg Bool.false_ne_true]

/-- The updated features read at an entry. -/
theorem refUpdate_apply (feat : FVec Ideal S4096x32 .f32) (rows : IVec S4096x32x1 32) (b : FVec Ideal S4096x32x8 .f32)
    (x3 : FVec Ideal S8x32 .f32) (a : Data) (p : Pos) (hf : ∀ i d, feat (ix2 i d) = (a.feat i d : EReal))
    (hw : ∀ i d, x3 (ix2 i d) = (a.wmsg i d : EReal)) (σ : Fin 4096 → Fin 4096) (i : Fin 4096)
    (hr : ∀ k : Fin 32, rows (ix3 i k 0) = BitVec.ofNat 32 (σ ⟨k.val, by omega⟩).val)
    (hb : ∀ (k : Fin 32) (c : Fin 8), b (ix3 i k c) = (refWeight (sqDist p i (σ ⟨k.val, by omega⟩) + eps) c : EReal))
    (d : Fin 32) : refUpdate feat rows b x3 (ix2 i d) = ((a.feat i d + refMsg p a.feat a.wmsg σ i d : ℝ) : EReal) := by
  have hg : ∀ k : Fin 32, Host.gather gather_S4096x32_S4096x32x1_S4096x32x32_2_0_n_n_0_2_132 feat rows (ix3 i k d)
      = (a.feat (σ ⟨k.val, by omega⟩) d : EReal) := fun k =>
    (gather_rows gather_S4096x32_S4096x32x1_S4096x32x32_2_0_n_n_0_2_132_wf feat rows i k d (σ ⟨k.val, by omega⟩)
      (by rw [hr]; exact row_number _)).trans (hf _ _)
  pointwise [refUpdate]
  rw [hf]
  simp only [hg, hb, hw, ← EReal.coe_mul, coe_sum]
  rw [← EReal.coe_add]
  rfl

/-- The energy from the updated features. -/
theorem refEnergy_apply (u : FVec Ideal S4096x32 .f32) (x4 : FVec Ideal S32 .f32) (v : Fin 4096 → Fin 32 → ℝ)
    (w : Fin 32 → EReal) (hu : ∀ i d, u (ix2 i d) = (v i d : EReal)) (hw : ∀ d, x4 (ix1 d) = w d) :
    refEnergy u x4 (ix2 0 0) = (∑ i, ∑ d, (v i d : EReal) * w d) * (unitE : EReal) := by
  pointwise [refEnergy]
  simp only [hu, hw, ofBits_unitE]

/-- The energy that the reference computes. -/
def Data.refEnergy (a : Data) : EReal :=
  (∑ i, ∑ d, ((a.feat i d + refMsg a.p a.feat a.wmsg (order (rowDist a.p i)) i d : ℝ) : EReal) * a.wout d)
    * (unitE : EReal)

/-- The reference's result. -/
theorem reference_result (m : (ℓ : Loc nD τ sig) → Buf (Elt Ideal) ℓ) (c : Dev nD) (a : Data)
    (ha : Holds a (m ((c.tc : Thread nD τ).loc main_arg0)) (m ((c.tc : Thread nD τ).loc main_arg1))
        (m ((c.tc : Thread nD τ).loc main_arg2))
          (m ((c.tc : Thread nD τ).loc main_arg3)) (m ((c.tc : Thread nD τ).loc main_arg4))) :
    (Cert.ReferenceIdeal.Value.res_main_v84 m c : FVec Ideal S1x1 .f32) (ix2 0 0) = a.refEnergy := by
  rw [res_eq]
  refine refEnergy_apply _ _ _ _ (fun i d => ?_) ha.wout
  have hrow : ∀ k : Fin 32, refRows (refNear (m ((c.tc : Thread nD τ).loc main_arg0))) (ix3 i k 0)
      = BitVec.ofNat 32 (order (rowDist a.p i) ⟨k.val, by omega⟩).val := fun k =>
    refRows_apply _ i k _ (refNear_apply _ a.p ha.p i k)
  refine refUpdate_apply _ _ _ _ a a.p (refFeat_apply a _ _ ha.nodes ha.embed) ha.wmsg (order (rowDist a.p i)) i hrow
      (fun k b => ?_) d
  have he := eps_pos
  have hd := sqDist_nonneg a.p i (order (rowDist a.p i) ⟨k.val, by omega⟩)
  exact refBasis_apply _ i k b _ (by positivity)
    (refRadius_apply _ a.p ha.p _ i k _ (hrow k))

end Cert.Proof

end
-- ==== Proof.Separated.lean ====
/-
  What the precondition says of the numbers that the arguments hold.
-/
module

public import proofs.«01_k».proof.Proof.KernelPair
public import proofs.«01_k».proof.Proof.Nearest
public import proofs.«01_k».proof.Proof.Data
public import proofs.«01_k».proof.Proof.Gen.Pre_separated
public import Idealize.ShloMosaic.Lib.Pointwise
public import Idealize.ShloMosaic.Lib.ReduceAll

@[expose] public section

noncomputable section

namespace Cert.Proof

open Idealize.ShloMosaic Cert.Pre_separated Cert.Pre_separated.Facts

/-- The negated squared distances, as the precondition computes them. -/
def preDist (x0 : FVec Ideal S4096x3 .f32) : FVec Ideal S4096x4096 .f32 :=
  let v1 := mulf x0 (broadcastInDim S4096x3 ![] bcast_S_S4096x3 (constant (F := Ideal) S_ .f32 0x41200000#32))
  let v6 := subf (broadcastInDim S4096x4096x3 ![0, 1, 2] bcast_S4096x1x3_S4096x4096x3_0_1_2
      (broadcastInDim S4096x1x3 ![0, 2] bcast_S4096x3_S4096x1x3_0_2 v1))
    (broadcastInDim S4096x4096x3 ![0, 1, 2] bcast_S1x4096x3_S4096x4096x3_0_1_2
        (broadcastInDim S1x4096x3 ![1, 2] bcast_S4096x3_S1x4096x3_1_2 v1))
  let v8 := Host.reduceAdd (mulf v6 v6) (constant (F := Ideal) S_ .f32 0x00000000#32)
      reducesTo_S4096x4096x3_S4096x4096_d2 h_S_
  let v13 := cmpi .eq (addi (iotaInDim S4096x4096 32 0) (broadcastInDim S4096x4096 ![] bcast_S_S4096x4096
      (constantI S_ 32 0#32))) (iotaInDim S4096x4096 32 1)
  Host.negf (addf v8 (mulf (uitofp .f32 v13) (broadcastInDim S4096x4096 ![] bcast_S_S4096x4096
      (constant (F := Ideal) S_ .f32 0x501502F9#32))))

/-- The distances of the 33 nearest atoms, as the precondition computes them. -/
def preNear (x0 : FVec Ideal S4096x3 .f32) : FVec Ideal S4096x33 .f32 :=
  Host.negf (Host.topK S4096x33 1 (FloatOps.cmpfTotal (F := Ideal) .gt) (preDist x0) sliceFits_S4096x4096_S4096x33).1

/-- The precondition's test of an atom's row. -/
def preTest (x0 : FVec Ideal S4096x3 .f32) : IVec S4096 1 :=
  let v21 : FVec Ideal S4096 .f32 := shapeCast S4096 (extractStridedSlice S4096x1 ![0, 31]
      (preNear x0) slices_S4096x33_S4096x1_0_31) shapeCasts_S4096x1_S4096
  let v23 : FVec Ideal S4096 .f32 := shapeCast S4096 (extractStridedSlice S4096x1 ![0, 32]
      (preNear x0) slices_S4096x33_S4096x1_0_32) shapeCasts_S4096x1_S4096
  let step := broadcastInDim S4096 ![] bcast_S_S4096 (constant (F := Ideal) S_ .f32 0x38C80000#32)
  let v28 := maximumf (Host.ceil (Host.divf v21 step)) (broadcastInDim S4096 ![] bcast_S_S4096
      (constant (F := Ideal) S_ .f32 0x3F800000#32))
  ori (cmpf .olt (mulf v28 step) v23) (cmpf .ogt v21 (broadcastInDim S4096 ![] bcast_S_S4096
      (constant (F := Ideal) S_ .f32 0x41C80000#32)))

/-- The precondition is a conjunction of five tests, each of which holds at every entry. -/
theorem pre_holds (x0 : FVec Ideal S4096x3 .f32) (x1 : FVec Ideal S4096x16 .f32) (x2 : FVec Ideal S16x32 .f32)
    (x3 : FVec Ideal S8x32 .f32)
    (x4 : FVec Ideal S32 .f32) (h : fn x0 x1 x2 x3 x4 = fun _ => 1#1) :
    (∀ i, preTest x0 (ix1 i) = 1#1)
    ∧ (∀ i j, FloatOps.cmpf (F := Ideal) .ole (FloatOps.absf (F := Ideal) (x0 (ix2 i j)))
        (Ideal.ofBits .f32 0x447A0000#32) = 1#1)
    ∧ (∀ i j, FloatOps.cmpf (F := Ideal) .olt (FloatOps.absf (F := Ideal) (x1 (ix2 i j)))
        (Ideal.ofBits .f32 0x7F800000#32) = 1#1)
    ∧ (∀ i j, FloatOps.cmpf (F := Ideal) .olt (FloatOps.absf (F := Ideal) (x2 (ix2 i j)))
        (Ideal.ofBits .f32 0x7F800000#32) = 1#1)
    ∧ (∀ i j, FloatOps.cmpf (F := Ideal) .olt (FloatOps.absf (F := Ideal) (x3 (ix2 i j)))
        (Ideal.ofBits .f32 0x7F800000#32) = 1#1) := by
  have q := congrFun h ix0
  unfold fn fn_part1 fn_part2 fn_part3 at q
  dsimp only at q
  have and1 : ∀ a b : BitVec 1, IntOp.andi a b = 1#1 → a = 1#1 ∧ b = 1#1 := by decide
  rw [show ∀ (x y : IVec S_ 1) i, andi x y i = IntOp.andi (x i) (y i) from fun _ _ _ => rfl] at q
  obtain ⟨q, q3⟩ := and1 _ _ q
  obtain ⟨q, q2⟩ := and1 _ _ q
  obtain ⟨q, q1⟩ := and1 _ _ q
  obtain ⟨q, q0⟩ := and1 _ _ q
  have : Subsingleton S_.Idx := ⟨fun a b => funext fun k => k.elim0⟩
  refine ⟨fun i => Host.reduce_andi_all _ _ _ _ _ q (ix1 i), fun i j => Host.reduce_andi_all _ _ _ _ _ q0 (ix2 i j),
    fun i j => Host.reduce_andi_all _ _ _ _ _ q1 (ix2 i j), fun i j => Host.reduce_andi_all _ _ _ _ _ q2 (ix2 i j),
    fun i j => Host.reduce_andi_all _ _ _ _ _ q3 (ix2 i j)⟩

/-- The negated distances read at an entry. -/
theorem preDist_apply (x0 : FVec Ideal S4096x3 .f32) (p : Pos) (h : ∀ i c, x0 (ix2 i c) = (p i c : EReal))
    (i j : Fin 4096) :
    preDist x0 (ix2 i j) = ((-rowDist p i j : ℝ) : EReal) := by
  pointwise [preDist]
  exact dist_value (fun i c => x0 (ix2 i c)) p h i j

/-- The nearest distances read at an entry. -/
theorem preNear_apply (x0 : FVec Ideal S4096x3 .f32) (p : Pos) (h : ∀ i c, x0 (ix2 i c) = (p i c : EReal)) (i : Fin 4096)
    (l : Fin 33) :
    preNear x0 (ix2 i l) = (rowDist p i (order (rowDist p i) (l.castLE (by omega))) : EReal) := by
  unfold preNear
  pointwise
  rw [(topK_apply (by omega) (rowDist p) (preDist x0) (preDist_apply x0 p h) _ i l).1, ← EReal.coe_neg, neg_neg]

/-- The larger of two reals, among the extended reals. -/
theorem coe_max (a b : ℝ) : ((max a b : ℝ) : EReal) = max (a : EReal) (b : EReal) := EReal.coe_strictMono.monotone.map_max

/-- A row that passes the test is apart. -/
theorem preTest_apply (x0 : FVec Ideal S4096x3 .f32) (p : Pos) (h : ∀ i c, x0 (ix2 i c) = (p i c : EReal)) (i : Fin 4096)
   (hp : preTest x0 (ix1 i) = 1#1) : Apart (rowDist p i) (order (rowDist p i)) := by
  revert hp
  pointwise [preTest]
  rw [preNear_apply x0 p h, preNear_apply x0 p h, ofBits_25, ofBits_step, Ideal.div_coe (by norm_num), ← EReal.coe_mul,
    Ideal.liftRound_coe, ← EReal.coe_one, ← coe_max, ← EReal.coe_mul]
  intro q
  unfold Apart
  have or1 : ∀ a b : Bool, IntOp.ori (BitVec.ofBool a) (BitVec.ofBool b) = 1#1 → a = true ∨ b = true := by decide
  rcases or1 _ _ q with q | q
  · right
    have := EReal.coe_lt_coe_iff.1 (of_decide_eq_true q)
    rw [mul_one_div] at this
    exact this
  · left
    exact EReal.coe_lt_coe_iff.1 (of_decide_eq_true q)

/-- A number whose magnitude is at most `c` is real. -/
theorem real_of_le (x : EReal) (c : ℝ) (h : FloatOps.cmpf (F := Ideal) .ole (FloatOps.absf (F := Ideal) (φ := .f32) x)
    (c : EReal) = 1#1) :
    x = (x.toReal : EReal) ∧ |x.toReal| ≤ c := by
  have hb : ∀ b : Bool, BitVec.ofBool b = 1#1 → b = true := by decide
  have q : max x (-x) ≤ (c : EReal) := of_decide_eq_true (hb _ h)
  have h1 := (le_max_left x (-x)).trans q
  have h2 := (le_max_right x (-x)).trans q
  induction x with
  | bot => exact absurd h2 (by rw [EReal.neg_bot]; exact not_le.2 (EReal.coe_lt_top c))
  | top => exact absurd h1 (not_le.2 (EReal.coe_lt_top c))
  | coe r =>
    rw [← EReal.coe_neg] at h2
    exact ⟨rfl, abs_le'.2 ⟨EReal.coe_le_coe_iff.1 h1, EReal.coe_le_coe_iff.1 h2⟩⟩

/-- A number whose magnitude is below infinity is real. -/
theorem real_of_lt (x : EReal) (h : FloatOps.cmpf (F := Ideal) .olt (FloatOps.absf (F := Ideal) (φ := .f32) x)
    (Ideal.ofBits .f32 0x7F800000#32) = 1#1) : x = (x.toReal : EReal) := by
  have hb : ∀ b : Bool, BitVec.ofBool b = 1#1 → b = true := by decide
  have q : max x (-x) < Ideal.ofBits .f32 0x7F800000#32 := of_decide_eq_true (hb _ h)
  rw [ofBits_inf] at q
  have h1 := (le_max_left x (-x)).trans_lt q
  have h2 := (le_max_right x (-x)).trans_lt q
  induction x with
  | bot => exact absurd h2 (by rw [EReal.neg_bot]; exact lt_irrefl _)
  | top => exact absurd h1 (lt_irrefl _)
  | coe r => rfl

/-- What the precondition says: the arguments before the last are real numbers, the positions are at most 1000 in magnitude, and every
    row of distances is apart. -/
theorem pre_data (x0 : FVec Ideal S4096x3 .f32) (x1 : FVec Ideal S4096x16 .f32) (x2 : FVec Ideal S16x32 .f32)
    (x3 : FVec Ideal S8x32 .f32) (x4 : FVec Ideal S32 .f32) (h : fn x0 x1 x2 x3 x4 = fun _ => 1#1) :
    ∃ a : Data, Holds a x0 x1 x2 x3 x4 ∧ (∀ i c, |a.p i c| ≤ 1000)
      ∧ ∀ i, Apart (rowDist a.p i) (order (rowDist a.p i)) := by
  obtain ⟨ht, h0, h1, h2, h3⟩ := pre_holds x0 x1 x2 x3 x4 h
  rw [ofBits_1000] at h0
  exact ⟨⟨fun i c => (x0 (ix2 i c)).toReal, fun i c => (x1 (ix2 i c)).toReal, fun i c => (x2 (ix2 i c)).toReal,
      fun i c => (x3 (ix2 i c)).toReal, fun i => x4 (ix1 i)⟩,
    ⟨fun i c => (real_of_le _ _ (h0 i c)).1, fun i c => real_of_lt _ (h1 i c), fun i c => real_of_lt _ (h2 i c),
      fun i c => real_of_lt _ (h3 i c), fun _ => rfl⟩,
    fun i c => (real_of_le _ _ (h0 i c)).2,
    fun i => preTest_apply x0 _ (fun i c => (real_of_le _ _ (h0 i c)).1) i (ht i)⟩

end Cert.Proof

end
-- ==== Proof.Algebraic.lean ====
/-
  The value claim: from arguments that satisfy the precondition the idealized kernel and the reference end with the same
  energy.
-/
module

public import proofs.«01_k».proof.Defs
public import proofs.«01_k».proof.Proof.KernelRun
public import proofs.«01_k».proof.Proof.Reference
public import proofs.«01_k».proof.Proof.Separated

@[expose] public section

noncomputable section

open Idealize.ShloMosaic Idealize.ShloMosaic.TcCoe Idealize.SL.Sem

namespace Cert.Proof

/-- The two energies are equal when the positions are bounded and every row of distances is apart. -/
theorem energy_eq (a : Data) (hp : ∀ i c, |a.p i c| ≤ 1000)
    (hsep : ∀ i, Apart (rowDist a.p i) (order (rowDist a.p i))) : a.refEnergy = a.kernelEnergy := by
  unfold Data.refEnergy Data.kernelEnergy
  refine congrArg (· * (unitE : EReal)) (Finset.sum_congr rfl fun i _ => Finset.sum_congr rfl fun d _ => ?_)
  rw [msg_eq a.p a.feat a.wmsg hp i _ (order_bijective _) (order_monotone _) (hsep i) d]

/-- An array of one element is known from that element. -/
theorem one_element {α : Type} (x y : (⟨2, ![1, 1]⟩ : Shape).Idx → α) (h : x (ix2 0 0) = y (ix2 0 0)) : x = y := by
  funext k
  obtain rfl : k = ix2 0 0 := by
    funext b
    match b with
    | ⟨0, _⟩ => exact Subsingleton.elim (α := Fin 1) _ _
    | ⟨1, _⟩ => exact Subsingleton.elim (α := Fin 1) _ _
  exact h

/-- From arguments that satisfy the precondition the idealized kernel and the reference end with equal results. -/
theorem value_eq : Cert.algebraic_KernelIdeal_ReferenceIdeal_pre_separated := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a, ha, hp, hsep⟩ := pre_data _ _ _ _ _ (hpre c)
  have hk := kernel_result m c a ha
  obtain ⟨e0, e1, e2, e3, e4⟩ := hagree c
  have hr := reference_result m' c a (by rw [e0, e1, e2, e3, e4]; exact ha)
  refine one_element _ _ (hr.trans ?_)
  rw [energy_eq a hp hsep]
  exact hk.symm

end Cert.Proof

end
-- ==== Proof.lean ====
/-
  The certificate's claim, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_separated
public import proofs.«01_k».proof.Proof.Gen.KernelIdeal.Value
public import proofs.«01_k».proof.Proof.Frames
public import proofs.«01_k».proof.Proof.Algebraic

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Pre_separated.Gen.facts, frame_kernel, frame_kernelIdeal, fun m ρ _ => frame_kernelIdeal m ρ trivial,
  frame_reference, fun m ρ _ => frame_reference m ρ trivial, preserves_consts, value_eq⟩

end Cert.Proof

end
